-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_is_not_negative [hPre_scale_is_not_negative : Cert.Pre_scale_is_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_scale_is_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_is_not_negative [hPre_scale_is_not_negative : Cert.Pre_scale_is_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_is_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesReferenceIdeal (m : (ℓ : Loc Cert.ScalesReferenceIdeal.nD Cert.ScalesReferenceIdeal.τ Cert.ScalesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scale_is_not_negative [hKernelIdeal : Cert.KernelIdeal.Facts] [hPre_scale_is_not_negative : Cert.Pre_scale_is_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_is_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scale_is_not_negative [hReferenceIdeal : Cert.ReferenceIdeal.Facts] [hPre_scale_is_not_negative : Cert.Pre_scale_is_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_is_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0))
      ∧ r.2.sem = fun _ => 0)

def preserves_Kernel_KernelIdeal : Prop :=
  True

def algebraic_KernelIdeal_ReferenceIdeal_on_later_frames_pre_scale_is_not_negative [hKernelIdeal : Cert.KernelIdeal.Facts] [hReferenceIdeal : Cert.ReferenceIdeal.Facts] [hPre_scale_is_not_negative : Cert.Pre_scale_is_not_negative.Facts] [hOn_later_frames : Cert.On_later_frames.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_is_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨5, ![3, 8, 180, 96, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v6_0) i = v0 c i)
          ∧ (∀ i : (⟨5, ![3, 8, 180, 192, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v6_1) i = v1 c i)
          ∧ (∀ i : (⟨5, ![3, 2, 180, 192, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v6_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨5, ![3, 8, 180, 96, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v3_0) i = v0 c i)
          ∧ (∀ i : (⟨5, ![3, 8, 180, 192, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v3_1) i = v1 c i)
          ∧ (∀ i : (⟨5, ![3, 2, 180, 192, 128]⟩ : Shape).Idx, (Cert.On_later_frames.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v3_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Scales_ScalesIdeal : Prop :=
  True

def algebraic_ScalesIdeal_ScalesReferenceIdeal [hScalesIdeal : Cert.ScalesIdeal.Facts] [hScalesReferenceIdeal : Cert.ScalesReferenceIdeal.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)) →
    ∃ (v0 : (c : Dev Cert.ScalesIdeal.nD) → Buf (Elt Ideal) ((c.tc : Thread Cert.ScalesIdeal.nD Cert.ScalesIdeal.τ).loc Cert.ScalesIdeal.main_v2_0)) (v1 : (c : Dev Cert.ScalesIdeal.nD) → Buf (Elt Ideal) ((c.tc : Thread Cert.ScalesIdeal.nD Cert.ScalesIdeal.τ).loc Cert.ScalesIdeal.main_v2_1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v2_0) = v0 c
          ∧ r.2.mem ((c.tc : Thread Cert.ScalesIdeal.nD Cert.ScalesIdeal.τ).loc Cert.ScalesIdeal.main_v2_1) = v1 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v0_0) = v0 c
          ∧ r.2.mem ((c.tc : Thread Cert.ScalesReferenceIdeal.nD Cert.ScalesReferenceIdeal.τ).loc Cert.ScalesReferenceIdeal.main_v0_1) = v1 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts) (hPre_scale_is_not_negative : Cert.Pre_scale_is_not_negative.Facts) (hOn_later_frames : Cert.On_later_frames.Facts),
    quiescent_Kernel (hKernel := hKernel)
    ∧ quiescent_KernelIdeal (hKernelIdeal := hKernelIdeal)
    ∧ quiescent_KernelIdeal_pre_scale_is_not_negative (hKernelIdeal := hKernelIdeal) (hPre_scale_is_not_negative := hPre_scale_is_not_negative)
    ∧ quiescent_ReferenceIdeal (hReferenceIdeal := hReferenceIdeal)
    ∧ quiescent_ReferenceIdeal_pre_scale_is_not_negative (hReferenceIdeal := hReferenceIdeal) (hPre_scale_is_not_negative := hPre_scale_is_not_negative)
    ∧ quiescent_Scales (hScales := hScales)
    ∧ quiescent_ScalesIdeal (hScalesIdeal := hScalesIdeal)
    ∧ quiescent_ScalesReferenceIdeal (hScalesReferenceIdeal := hScalesReferenceIdeal)
    ∧ preserves_Kernel_KernelIdeal
    ∧ algebraic_KernelIdeal_ReferenceIdeal_on_later_frames_pre_scale_is_not_negative (hKernelIdeal := hKernelIdeal) (hReferenceIdeal := hReferenceIdeal) (hPre_scale_is_not_negative := hPre_scale_is_not_negative) (hOn_later_frames := hOn_later_frames)
    ∧ preserves_Scales_ScalesIdeal
    ∧ algebraic_ScalesIdeal_ScalesReferenceIdeal (hScalesIdeal := hScalesIdeal) (hScalesReferenceIdeal := hScalesReferenceIdeal)
-- ==== On_later_frames.lean ====
abbrev S1 : Shape := ⟨1, ![1]⟩
abbrev S3x8x180x128x192 : Shape := ⟨5, ![3, 8, 180, 128, 192]⟩
abbrev S3x2x180x128x192 : Shape := ⟨5, ![3, 2, 180, 128, 192]⟩
abbrev S_ : Shape := ⟨0, ![]⟩
abbrev S3x3x3x192x96 : Shape := ⟨5, ![3, 3, 3, 192, 96]⟩
abbrev S96 : Shape := ⟨1, ![96]⟩
abbrev S3x8x180x96x128 : Shape := ⟨5, ![3, 8, 180, 96, 128]⟩
abbrev S3x8x180x192x128 : Shape := ⟨5, ![3, 8, 180, 192, 128]⟩
abbrev S3x2x180x192x128 : Shape := ⟨5, ![3, 2, 180, 192, 128]⟩

class Facts : Prop where
  bcast_S_S3x8x180x96x128 : S_.BroadcastsInDim S3x8x180x96x128 (![] : Fin 0 → Fin S3x8x180x96x128.rank)
  bcast_S_S3x8x180x192x128 : S_.BroadcastsInDim S3x8x180x192x128 (![] : Fin 0 → Fin S3x8x180x192x128.rank)
  bcast_S_S3x2x180x192x128 : S_.BroadcastsInDim S3x2x180x192x128 (![] : Fin 0 → Fin S3x2x180x192x128.rank)

variable [Facts]

def fn {F : FTy → Type} [FloatOps F] (main_arg0 : FVec F S1 .f32) (main_arg1 : FVec F S1 .f32) (main_arg2 : FVec F S3x8x180x128x192 .bf16) (main_arg3 : FVec F S3x2x180x128x192 .fp8e4m3) (main_arg4 : FVec F S_ .f32) (main_arg5 : FVec F S3x3x3x192x96 .fp8e4m3) (main_arg6 : FVec F S96 .f32) (main_arg7 : FVec F S96 .f32) : IVec S3x8x180x96x128 1 × IVec S3x8x180x192x128 1 × IVec S3x2x180x192x128 1 :=
  let main_v0 : IVec S3x8x180x96x128 32 := iotaInDim S3x8x180x96x128 32 1
  let main_c : IVec S_ 32 := constantI S_ 32 2#32
  let main_v1 : IVec S3x8x180x96x128 32 := broadcastInDim S3x8x180x96x128 ![] bcast_S_S3x8x180x96x128 main_c
  let main_v2 : IVec S3x8x180x96x128 1 := cmpi .sge main_v0 main_v1
  let main_v3 : IVec S3x8x180x192x128 32 := iotaInDim S3x8x180x192x128 32 1
  let main_c_0 : IVec S_ 32 := constantI S_ 32 0#32
  let main_v4 : IVec S3x8x180x192x128 32 := broadcastInDim S3x8x180x192x128 ![] bcast_S_S3x8x180x192x128 main_c_0
  let main_v5 : IVec S3x8x180x192x128 1 := cmpi .sge main_v3 main_v4
  let main_v6 : IVec S3x2x180x192x128 32 := iotaInDim S3x2x180x192x128 32 1
  let main_c_1 : IVec S_ 32 := constantI S_ 32 0#32
  let main_v7 : IVec S3x2x180x192x128 32 := broadcastInDim S3x2x180x192x128 ![] bcast_S_S3x2x180x192x128 main_c_1
  let main_v8 : IVec S3x2x180x192x128 1 := cmpi .sge main_v6 main_v7
  (main_v2, main_v5, main_v8)
-- ==== Pre_scale_is_not_negative.lean ====
abbrev S1 : Shape := ⟨1, ![1]⟩
abbrev S3x8x180x128x192 : Shape := ⟨5, ![3, 8, 180, 128, 192]⟩
abbrev S3x2x180x128x192 : Shape := ⟨5, ![3, 2, 180, 128, 192]⟩
abbrev S_ : Shape := ⟨0, ![]⟩
abbrev S3x3x3x192x96 : Shape := ⟨5, ![3, 3, 3, 192, 96]⟩
abbrev S96 : Shape := ⟨1, ![96]⟩

class Facts : Prop where
  shapeCasts_S1_S_ : S1.ShapeCasts S_

variable [Facts]

def fn {F : FTy → Type} [FloatOps F] (main_arg0 : FVec F S1 .f32) (main_arg1 : FVec F S1 .f32) (main_arg2 : FVec F S3x8x180x128x192 .bf16) (main_arg3 : FVec F S3x2x180x128x192 .fp8e4m3) (main_arg4 : FVec F S_ .f32) (main_arg5 : FVec F S3x3x3x192x96 .fp8e4m3) (main_arg6 : FVec F S96 .f32) (main_arg7 : FVec F S96 .f32) : IVec S_ 1 :=
  let main_v0 : FVec F S_ .f32 := shapeCast S_ main_arg0 shapeCasts_S1_S_
  let main_cst : FVec F S_ .f32 := constant S_ .f32 0x00000000#32
  let main_v1 : IVec S_ 1 := cmpf .oge main_v0 main_cst
  main_v1
-- ==== Kernel.lean ====
abbrev S1 : Shape := ⟨1, ![1]⟩
abbrev S3x8x180x128x192 : Shape := ⟨5, ![3, 8, 180, 128, 192]⟩
abbrev S3x2x180x128x192 : Shape := ⟨5, ![3, 2, 180, 128, 192]⟩
abbrev S_ : Shape := ⟨0, ![]⟩
abbrev S3x3x3x192x96 : Shape := ⟨5, ![3, 3, 3, 192, 96]⟩
abbrev S96 : Shape := ⟨1, ![96]⟩
abbrev S3x8x180x192x128 : Shape := ⟨5, ![3, 8, 180, 192, 128]⟩
abbrev S3x2x180x192x128 : Shape := ⟨5, ![3, 2, 180, 192, 128]⟩
abbrev S3x1728x96 : Shape := ⟨3, ![3, 1728, 96]⟩
abbrev S1x96 : Shape := ⟨2, ![1, 96]⟩
abbrev S3x8x180x96x128 : Shape := ⟨5, ![3, 8, 180, 96, 128]⟩
abbrev S1x8x4x192x128 : Shape := ⟨5, ![1, 8, 4, 192, 128]⟩
abbrev S1x2x4x192x128 : Shape := ⟨5, ![1, 2, 4, 192, 128]⟩
abbrev S1x8x4x96x128 : Shape := ⟨5, ![1, 8, 4, 96, 128]⟩
abbrev S10x3520x128 : Shape := ⟨3, ![10, 3520, 128]⟩
abbrev S2x256x256 : Shape := ⟨3, ![2, 256, 256]⟩
abbrev S2x4x96x128 : Shape := ⟨4, ![2, 4, 96, 128]⟩
abbrev S3x96x1792 : Shape := ⟨3, ![3, 96, 1792]⟩
abbrev S96x128 : Shape := ⟨2, ![96, 128]⟩
abbrev S2x2x3x32x256 : Shape := ⟨5, ![2, 2, 3, 32, 256]⟩
abbrev S128x96 : Shape := ⟨2, ![128, 96]⟩
abbrev S1x128x96 : Shape := ⟨3, ![1, 128, 96]⟩
abbrev S1x96x128 : Shape := ⟨3, ![1, 96, 128]⟩
abbrev S1x64x96 : Shape := ⟨3, ![1, 64, 96]⟩
abbrev S64x96 : Shape := ⟨2, ![64, 96]⟩
abbrev S1x128 : Shape := ⟨2, ![1, 128]⟩
abbrev S1x1x1x32x256 : Shape := ⟨5, ![1, 1, 1, 32, 256]⟩
abbrev S32x256 : Shape := ⟨2, ![32, 256]⟩
abbrev S1x256x256 : Shape := ⟨3, ![1, 256, 256]⟩
abbrev S256x256 : Shape := ⟨2, ![256, 256]⟩
abbrev S1x1x1x192x128 : Shape := ⟨5, ![1, 1, 1, 192, 128]⟩
abbrev S192x128 : Shape := ⟨2, ![192, 128]⟩
abbrev S1x192x128 : Shape := ⟨3, ![1, 192, 128]⟩
abbrev S1x256x128 : Shape := ⟨3, ![1, 256, 128]⟩
abbrev S256x128 : Shape := ⟨2, ![256, 128]⟩
abbrev S1x32x256 : Shape := ⟨3, ![1, 32, 256]⟩
abbrev S32x128 : Shape := ⟨2, ![32, 128]⟩
abbrev S1x1x32x128 : Shape := ⟨4, ![1, 1, 32, 128]⟩
abbrev S1x576x128 : Shape := ⟨3, ![1, 576, 128]⟩
abbrev S576x128 : Shape := ⟨2, ![576, 128]⟩
abbrev S1x1x1x32x128 : Shape := ⟨5, ![1, 1, 1, 32, 128]⟩

abbrev nBuf : Space → Nat
  | .hbm => 17
  | .vmem => 21
  | .smem => 3
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S3x8x180x128x192, .bf16⟩
  | .hbm, ⟨3, _⟩ => ⟨S3x2x180x128x192, .fp8e4m3⟩
  | .hbm, ⟨4, _⟩ => ⟨S_, .f32⟩
  | .hbm, ⟨5, _⟩ => ⟨S3x3x3x192x96, .fp8e4m3⟩
  | .hbm, ⟨6, _⟩ => ⟨S96, .f32⟩
  | .hbm, ⟨7, _⟩ => ⟨S96, .f32⟩
  | .hbm, ⟨8, _⟩ => ⟨S1, .f32⟩
  | .hbm, ⟨9, _⟩ => ⟨S3x8x180x192x128, .bf16⟩
  | .hbm, ⟨10, _⟩ => ⟨S3x2x180x192x128, .fp8e4m3⟩
  | .hbm, ⟨11, _⟩ => ⟨S3x1728x96, .fp8e4m3⟩
  | .hbm, ⟨12, _⟩ => ⟨S1x96, .f32⟩
  | .hbm, ⟨13, _⟩ => ⟨S1x96, .f32⟩
  | .hbm, ⟨14, _⟩ => ⟨S3x8x180x96x128, .bf16⟩
  | .hbm, ⟨15, _⟩ => ⟨S3x8x180x192x128, .fp8e4m3⟩
  | .hbm, ⟨16, _⟩ => ⟨S3x2x180x192x128, .fp8e4m3⟩
  | .local _ .vmem, ⟨0, _⟩ => ⟨S1x8x4x192x128, .bf16⟩
  | .local _ .vmem, ⟨1, _⟩ => ⟨S1x8x4x192x128, .bf16⟩
  | .local _ .vmem, ⟨2, _⟩ => ⟨S1x2x4x192x128, .fp8e4m3⟩
  | .local _ .vmem, ⟨3, _⟩ => ⟨S1x2x4x192x128, .fp8e4m3⟩
  | .local _ .vmem, ⟨4, _⟩ => ⟨S3x1728x96, .fp8e4m3⟩
  | .local _ .vmem, ⟨5, _⟩ => ⟨S1x96, .f32⟩
  | .local _ .vmem, ⟨6, _⟩ => ⟨S1x96, .f32⟩
  | .local _ .vmem, ⟨7, _⟩ => ⟨S1x8x4x96x128, .bf16⟩
  | .local _ .vmem, ⟨8, _⟩ => ⟨S1x8x4x96x128, .bf16⟩
  | .local _ .vmem, ⟨9, _⟩ => ⟨S1x8x4x192x128, .fp8e4m3⟩
  | .local _ .vmem, ⟨10, _⟩ => ⟨S1x8x4x192x128, .fp8e4m3⟩
  | .local _ .vmem, ⟨11, _⟩ => ⟨S1x2x4x192x128, .fp8e4m3⟩
  | .local _ .vmem, ⟨12, _⟩ => ⟨S1x2x4x192x128, .fp8e4m3⟩
  | .local _ .vmem, ⟨13, _⟩ => ⟨S10x3520x128, .fp8e4m3⟩
  | .local _ .vmem, ⟨14, _⟩ => ⟨S2x256x256, .fp8e4m3⟩
  | .local _ .vmem, ⟨15, _⟩ => ⟨S2x4x96x128, .f32⟩
  | .local _ .vmem, ⟨16, _⟩ => ⟨S3x96x1792, .fp8e4m3⟩
  | .local _ .vmem, ⟨17, _⟩ => ⟨S96x128, .f32⟩
  | .local _ .vmem, ⟨18, _⟩ => ⟨S96x128, .f32⟩
  | .local _ .vmem, ⟨19, _⟩ => ⟨S96x128, .f32⟩
  | .local _ .vmem, ⟨20, _⟩ => ⟨S2x2x3x32x256, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg8_1 : Ref sig .tc := ⟨.vmem, 8, rfl⟩
abbrev cc0_stg9_0 : Ref sig .tc := ⟨.vmem, 9, rfl⟩
abbrev cc0_stg9_1 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![137], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let c134_i32 : BitVec 32 := 134#32
  let v1 : BitVec 32 := Scalar.maxsi c0_i32 v0
  let v2 : BitVec 32 := Scalar.minsi c134_i32 v1
  let c45_i32 : BitVec 32 := 45#32
  let v3 : BitVec 32 := Scalar.divsi v2 c45_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c45_i32 c0_i32_2
  let v10 : BitVec 32 := Scalar.extui v9
  let c0_i32_3 : BitVec 32 := 0#32
  let v11 : BitVec 1 := Scalar.cmpi .slt c45_i32 c0_i32_3
  let v12 : BitVec 32 := Scalar.extui v11
  let v13 : BitVec 32 := Scalar.subi v10 v12
  let v14 : BitVec 1 := Scalar.cmpi .ne v8 v13
  let v15 : BitVec 32 := Scalar.remsi v2 c45_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c45_i32_6 : BitVec 32 := 45#32
  let c0_i32_7 : BitVec 32 := 0#32
  let v20 : BitVec 1 := Scalar.cmpi .eq c45_i32_6 c0_i32_7
  let c1_i32_8 : BitVec 32 := 1#32
  let v21 : BitVec 32 := Scalar.select v20 c1_i32_8 c45_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![v19.toNat, c0_i32_12.toNat, v29.toNat, c0_i32_13.toNat, c0_i32_14.toNat]

def cc0_transform_4 (i : grid0.Coords) : Fin 5 → Nat :=
  let arg0 : BitVec 32 := BitVec.ofNat 32 (i 0).val
  let c0_i32 : BitVec 32 := 0#32
  let v0 : BitVec 32 := Scalar.subi arg0 c0_i32
  let c0_i32_0 : BitVec 32 := 0#32
  let c134_i32 : BitVec 32 := 134#32
  let v1 : BitVec 32 := Scalar.maxsi c0_i32_0 v0
  let v2 : BitVec 32 := Scalar.minsi c134_i32 v1
  let c45_i32 : BitVec 32 := 45#32
  let v3 : BitVec 32 := Scalar.divsi v2 c45_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c45_i32 c0_i32_3
  let v10 : BitVec 32 := Scalar.extui v9
  let c0_i32_4 : BitVec 32 := 0#32
  let v11 : BitVec 1 := Scalar.cmpi .slt c45_i32 c0_i32_4
  let v12 : BitVec 32 := Scalar.extui v11
  let v13 : BitVec 32 := Scalar.subi v10 v12
  let v14 : BitVec 1 := Scalar.cmpi .ne v8 v13
  let v15 : BitVec 32 := Scalar.remsi v2 c45_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c45_i32_6 : BitVec 32 := 45#32
  let c0_i32_7 : BitVec 32 := 0#32
  let v20 : BitVec 1 := Scalar.cmpi .eq c45_i32_6 c0_i32_7
  let c1_i32_8 : BitVec 32 := 1#32
  let v21 : BitVec 32 := Scalar.select v20 c1_i32_8 c45_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![v19.toNat, c0_i32_12.toNat, v29.toNat, c0_i32_13.toNat, c0_i32_14.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c2_i32 : BitVec 32 := 2#32
  let v0 : BitVec 32 := Scalar.subi arg0 c2_i32
  let c0_i32 : BitVec 32 := 0#32
  let c134_i32 : BitVec 32 := 134#32
  let v1 : BitVec 32 := Scalar.maxsi c0_i32 v0
  let v2 : BitVec 32 := Scalar.minsi c134_i32 v1
  let c45_i32 : BitVec 32 := 45#32
  let v3 : BitVec 32 := Scalar.divsi v2 c45_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c45_i32 c0_i32_2
  let v10 : BitVec 32 := Scalar.extui v9
  let c0_i32_3 : BitVec 32 := 0#32
  let v11 : BitVec 1 := Scalar.cmpi .slt c45_i32 c0_i32_3
  let v12 : BitVec 32 := Scalar.extui v11
  let v13 : BitVec 32 := Scalar.subi v10 v12
  let v14 : BitVec 1 := Scalar.cmpi .ne v8 v13
  let v15 : BitVec 32 := Scalar.remsi v2 c45_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c45_i32_5 : BitVec 32 := 45#32
  let c0_i32_6 : BitVec 32 := 0#32
  let v20 : BitVec 1 := Scalar.cmpi .eq c45_i32_5 c0_i32_6
  let c1_i32_7 : BitVec 32 := 1#32
  let v21 : BitVec 32 := Scalar.select v20 c1_i32_7 c45_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  let c0_i32_13 : BitVec 32 := 0#32
  let c0_i32_14 : BitVec 32 := 0#32
  ![v19.toNat, c0_i32_11.toNat, v29.toNat, c0_i32_12.toNat, c0_i32_13.toNat]

def cc0_transform_9 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let c134_i32 : BitVec 32 := 134#32
  let v1 : BitVec 32 := Scalar.maxsi c0_i32 v0
  let v2 : BitVec 32 := Scalar.minsi c134_i32 v1
  let c45_i32 : BitVec 32 := 45#32
  let v3 : BitVec 32 := Scalar.divsi v2 c45_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c45_i32 c0_i32_2
  let v10 : BitVec 32 := Scalar.extui v9
  let c0_i32_3 : BitVec 32 := 0#32
  let v11 : BitVec 1 := Scalar.cmpi .slt c45_i32 c0_i32_3
  let v12 : BitVec 32 := Scalar.extui v11
  let v13 : BitVec 32 := Scalar.subi v10 v12
  let v14 : BitVec 1 := Scalar.cmpi .ne v8 v13
  let v15 : BitVec 32 := Scalar.remsi v2 c45_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c45_i32_6 : BitVec 32 := 45#32
  let c0_i32_7 : BitVec 32 := 0#32
  let v20 : BitVec 1 := Scalar.cmpi .eq c45_i32_6 c0_i32_7
  let c1_i32_8 : BitVec 32 := 1#32
  let v21 : BitVec 32 := Scalar.select v20 c1_i32_8 c45_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![v19.toNat, c0_i32_12.toNat, v29.toNat, c0_i32_13.toNat, c0_i32_14.toNat]

def cc0_transform_10 (i : grid0.Coords) : Fin 5 → Nat :=
  let arg0 : BitVec 32 := BitVec.ofNat 32 (i 0).val
  let c1_i32 : BitVec 32 := 1#32
  let v0 : BitVec 32 := Scalar.subi arg0 c1_i32
  let c0_i32 : BitVec 32 := 0#32
  let c134_i32 : BitVec 32 := 134#32
  let v1 : BitVec 32 := Scalar.maxsi c0_i32 v0
  let v2 : BitVec 32 := Scalar.minsi c134_i32 v1
  let c45_i32 : BitVec 32 := 45#32
  let v3 : BitVec 32 := Scalar.divsi v2 c45_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c45_i32 c0_i32_2
  let v10 : BitVec 32 := Scalar.extui v9
  let c0_i32_3 : BitVec 32 := 0#32
  let v11 : BitVec 1 := Scalar.cmpi .slt c45_i32 c0_i32_3
  let v12 : BitVec 32 := Scalar.extui v11
  let v13 : BitVec 32 := Scalar.subi v10 v12
  let v14 : BitVec 1 := Scalar.cmpi .ne v8 v13
  let v15 : BitVec 32 := Scalar.remsi v2 c45_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c45_i32_6 : BitVec 32 := 45#32
  let c0_i32_7 : BitVec 32 := 0#32
  let v20 : BitVec 1 := Scalar.cmpi .eq c45_i32_6 c0_i32_7
  let c1_i32_8 : BitVec 32 := 1#32
  let v21 : BitVec 32 := Scalar.select v20 c1_i32_8 c45_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  let c0_i32_15 : BitVec 32 := 0#32
  ![v19.toNat, c0_i32_12.toNat, v29.toNat, c0_i32_13.toNat, c0_i32_14.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x4x192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x4x192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x1728x96 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x4x96x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x4x192x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x4x192x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1 : Shape := ⟨1, ![1]⟩
abbrev S3x8x180x128x192 : Shape := ⟨5, ![3, 8, 180, 128, 192]⟩
abbrev S3x2x180x128x192 : Shape := ⟨5, ![3, 2, 180, 128, 192]⟩
abbrev S_ : Shape := ⟨0, ![]⟩
abbrev S3x3x3x192x96 : Shape := ⟨5, ![3, 3, 3, 192, 96]⟩
abbrev S96 : Shape := ⟨1, ![96]⟩
abbrev S1x96 : Shape := ⟨2, ![1, 96]⟩
abbrev S3x8x180x96x128 : Shape := ⟨5, ![3, 8, 180, 96, 128]⟩
abbrev S3x8x180x192x128 : Shape := ⟨5, ![3, 8, 180, 192, 128]⟩
abbrev S3x2x180x192x128 : Shape := ⟨5, ![3, 2, 180, 192, 128]⟩
abbrev S3x10x180x128x192 : Shape := ⟨5, ![3, 10, 180, 128, 192]⟩
abbrev S3x10x1x128x192 : Shape := ⟨5, ![3, 10, 1, 128, 192]⟩
abbrev S3x10x182x128x192 : Shape := ⟨5, ![3, 10, 182, 128, 192]⟩
abbrev S3x10x182x1x192 : Shape := ⟨5, ![3, 10, 182, 1, 192]⟩
abbrev S3x10x182x130x192 : Shape := ⟨5, ![3, 10, 182, 130, 192]⟩
abbrev S552960x96 : Shape := ⟨2, ![552960, 96]⟩
abbrev S552960x192 : Shape := ⟨2, ![552960, 192]⟩
abbrev S1x1x1x192x96 : Shape := ⟨5, ![1, 1, 1, 192, 96]⟩
abbrev S192x96 : Shape := ⟨2, ![192, 96]⟩
abbrev S3x8x180x128x96 : Shape := ⟨5, ![3, 8, 180, 128, 96]⟩

abbrev nBuf : Space → Nat
  | .hbm => 14
  | .vmem => 8
  | .smem => 3
  | _ => 0

abbrev bufTy : (tb : Table) → Fin (tcTables nBuf tb) → BufTy
  | .hbm, ⟨0, _⟩ => ⟨S1, .f32⟩
  | .hbm, ⟨1, _⟩ => ⟨S1, .f32⟩
  | .hbm, ⟨2, _⟩ => ⟨S3x8x180x128x192, .bf16⟩
  | .hbm, ⟨3, _⟩ => ⟨S3x2x180x128x192, .fp8e4m3⟩
  | .hbm, ⟨4, _⟩ => ⟨S_, .f32⟩
  | .hbm, ⟨5, _⟩ => ⟨S3x3x3x192x96, .fp8e4m3⟩
  | .hbm, ⟨6, _⟩ => ⟨S96, .f32⟩
  | .hbm, ⟨7, _⟩ => ⟨S96, .f32⟩
  | .hbm, ⟨8, _⟩ => ⟨S1, .f32⟩
  | .hbm, ⟨9, _⟩ => ⟨S1x96, .f32⟩
  | .hbm, ⟨10, _⟩ => ⟨S1x96, .f32⟩
  | .hbm, ⟨11, _⟩ => ⟨S3x8x180x96x128, .bf16⟩
  | .hbm, ⟨12, _⟩ => ⟨S3x8x180x192x128, .fp8e4m3⟩
  | .hbm, ⟨13, _⟩ => ⟨S3x2x180x192x128, .fp8e4m3⟩
  | .local _ .vmem, ⟨0, _⟩ => ⟨S3x8x180x128x192, .bf16⟩
  | .local _ .vmem, ⟨1, _⟩ => ⟨S3x2x180x128x192, .fp8e4m3⟩
  | .local _ .vmem, ⟨2, _⟩ => ⟨S3x3x3x192x96, .fp8e4m3⟩
  | .local _ .vmem, ⟨3, _⟩ => ⟨S1x96, .f32⟩
  | .local _ .vmem, ⟨4, _⟩ => ⟨S1x96, .f32⟩
  | .local _ .vmem, ⟨5, _⟩ => ⟨S3x8x180x96x128, .bf16⟩
  | .local _ .vmem, ⟨6, _⟩ => ⟨S3x8x180x192x128, .fp8e4m3⟩
  | .local _ .vmem, ⟨7, _⟩ => ⟨S3x2x180x192x128, .fp8e4m3⟩
  | .local _ .smem, ⟨0, _⟩ => ⟨S1, .f32⟩
  | .local _ .smem, ⟨1, _⟩ => ⟨S1, .f32⟩
  | .local _ .smem, ⟨2, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x8x180x128x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x2x180x128x192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x3x192x96 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x8x180x96x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8x180x192x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x2x180x192x128 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Scales.lean ====
abbrev S3x8x180x128x192 : Shape := ⟨5, ![3, 8, 180, 128, 192]⟩
abbrev S3x8x180x192x128 : Shape := ⟨5, ![3, 8, 180, 192, 128]⟩
abbrev S24x180x192x128 : Shape := ⟨4, ![24, 180, 192, 128]⟩
abbrev S1 : Shape := ⟨1, ![1]⟩
abbrev S1x60x192x128 : Shape := ⟨4, ![1, 60, 192, 128]⟩
abbrev S2x64x128 : Shape := ⟨3, ![2, 64, 128]⟩
abbrev S64x128 : Shape := ⟨2, ![64, 128]⟩
abbrev S1x1x192x128 : Shape := ⟨4, ![1, 1, 192, 128]⟩
abbrev S192x128 : Shape := ⟨2, ![192, 128]⟩
abbrev S3x64x128 : Shape := ⟨3, ![3, 64, 128]⟩
abbrev S1x64x128 : Shape := ⟨3, ![1, 64, 128]⟩
abbrev S1x1x1 : Shape := ⟨3, ![1, 1, 1]⟩

abbrev nBuf : Space → Nat
  | .hbm => 5
  | .vmem => 3
  | .smem => 2
  | _ => 0

abbrev bufTy : (tb : Table) → Fin (tcTables nBuf tb) → BufTy
  | .hbm, ⟨0, _⟩ => ⟨S3x8x180x128x192, .bf16⟩
  | .hbm, ⟨1, _⟩ => ⟨S3x8x180x192x128, .bf16⟩
  | .hbm, ⟨2, _⟩ => ⟨S24x180x192x128, .bf16⟩
  | .hbm, ⟨3, _⟩ => ⟨S1, .f32⟩
  | .hbm, ⟨4, _⟩ => ⟨S1, .f32⟩
  | .local _ .vmem, ⟨0, _⟩ => ⟨S1x60x192x128, .bf16⟩
  | .local _ .vmem, ⟨1, _⟩ => ⟨S1x60x192x128, .bf16⟩
  | .local _ .vmem, ⟨2, _⟩ => ⟨S2x64x128, .bf16⟩
  | .local _ .smem, ⟨0, _⟩ => ⟨S1, .f32⟩
  | .local _ .smem, ⟨1, _⟩ => ⟨S1, .f32⟩
  | _, _ => ⟨S3x8x180x128x192, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![72], ![false]⟩

@[reducible] def k0_t1_loop : Scf.Loop 32 :=
  let c0_i32_11 : BitVec 32 := 0#32
  let c60_i32 : BitVec 32 := 60#32
  let v32 : BitVec 32 := Scalar.addi c0_i32_11 c60_i32
  let c1_i32_12 : BitVec 32 := 1#32
  ⟨c0_i32_11, v32, c1_i32_12⟩
def k0_off1 (k0_t1 : Fin k0_t1_loop.trips) : Fin 4 → Nat :=
  let c0_20 : Index := 0#32
  let c0_i32_11 : BitVec 32 := 0#32
  let c1_i32_12 : BitVec 32 := 1#32
  let arg5 : BitVec 32 := Scf.iv c0_i32_11 c1_i32_12 k0_t1
  let v46 : Index := Scalar.indexCast arg5
  let c0_21 : Index := 0#32
  let c0_22 : Index := 0#32
  ![0, v46.toNat, 0, 0]
def k0_off2 (i : grid0.Coords) : Fin 3 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let v17 : BitVec 1 := Scalar.cmpi .eq c8_i32 c0_i32_4
  let c1_i32_5 : BitVec 32 := 1#32
  let v18 : BitVec 32 := Scalar.select v17 c1_i32_5 c8_i32
  let v19 : BitVec 32 := Scalar.remsi v16 v18
  let c0_i32_7 : BitVec 32 := 0#32
  let v21 : BitVec 1 := Scalar.cmpi .slt v19 c0_i32_7
  let c0_i32_8 : BitVec 32 := 0#32
  let v22 : BitVec 1 := Scalar.cmpi .slt v18 c0_i32_8
  let v23 : BitVec 1 := Scalar.xori v21 v22
  let c0_i32_6 : BitVec 32 := 0#32
  let v20 : BitVec 1 := Scalar.cmpi .ne v19 c0_i32_6
  let v24 : BitVec 1 := Scalar.andi v23 v20
  let v25 : BitVec 32 := Scalar.addi v19 v18
  let v26 : BitVec 32 := Scalar.select v24 v25 v19
  let c6_i32 : BitVec 32 := 6#32
  let v27 : BitVec 1 := Scalar.cmpi .sge v26 c6_i32
  let c1_i32_14 : BitVec 32 := 1#32
  let c0_i32_15 : BitVec 32 := 0#32
  let v34 : BitVec 32 := Scalar.select v27 c1_i32_14 c0_i32_15
  let v35 : Index := Scalar.indexCast v34
  let c0 : Index := 0#32
  let c0_16 : Index := 0#32
  ![v35.toNat, 0, 0]
def k0_cond2 (i : grid0.Coords) : BitVec 1 :=
  let arg0 : BitVec 32 := BitVec.ofNat 32 (i 0).val
  let c71_i32 : BitVec 32 := 71#32
  let v43 : BitVec 1 := Scalar.cmpi .eq arg0 c71_i32
  let v44 : BitVec 32 := Scalar.extui v43
  let c0_i32_19 : BitVec 32 := 0#32
  let v45 : BitVec 1 := Scalar.cmpi .ne v44 c0_i32_19
  v45

def cc0_transform_0 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x60x192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ScalesReferenceIdeal.lean ====
abbrev S3x8x180x128x192 : Shape := ⟨5, ![3, 8, 180, 128, 192]⟩
abbrev S1 : Shape := ⟨1, ![1]⟩
abbrev S1x254 : Shape := ⟨2, ![1, 254]⟩
abbrev S1x3x8x180x128x192 : Shape := ⟨6, ![1, 3, 8, 180, 128, 192]⟩
abbrev S1x1x1x1x1x1 : Shape := ⟨6, ![1, 1, 1, 1, 1, 1]⟩
abbrev S1x1x254 : Shape := ⟨3, ![1, 1, 254]⟩
abbrev S1x1x1 : Shape := ⟨3, ![1, 1, 1]⟩
abbrev S3x2x180x128x192 : Shape := ⟨5, ![3, 2, 180, 128, 192]⟩
abbrev S1x3x2x180x128x192 : Shape := ⟨6, ![1, 3, 2, 180, 128, 192]⟩

abbrev nBuf : Space → Nat
  | .hbm => 3
  | .vmem => 1
  | .smem => 2
  | _ => 0

abbrev bufTy : (tb : Table) → Fin (tcTables nBuf tb) → BufTy
  | .hbm, ⟨0, _⟩ => ⟨S3x8x180x128x192, .bf16⟩
  | .hbm, ⟨1, _⟩ => ⟨S1, .f32⟩
  | .hbm, ⟨2, _⟩ => ⟨S1, .f32⟩
  | .local _ .vmem, ⟨0, _⟩ => ⟨S3x8x180x128x192, .bf16⟩
  | .local _ .smem, ⟨0, _⟩ => ⟨S1, .f32⟩
  | .local _ .smem, ⟨1, _⟩ => ⟨S1, .f32⟩
  | _, _ => ⟨S3x8x180x128x192, .bf16⟩

abbrev bufScoped : (cs : CoreSpace) → Fin (nBuf (.core cs)) → Bool
  | .vmem, ⟨0, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S3x8x180x128x192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.ScaleRun.lean ====
module

public import proofs.«01_k».proof.Proof.Gen.ScalesIdeal.Frame
public import proofs.«01_k».proof.Proof.Gen.ScalesIdeal.Skeleton
public import proofs.«01_k».proof.Proof.Gen.ScalesIdeal.Loops

@[expose] public section

set_option maxRecDepth 16384

noncomputable section

namespace Cert.ScalesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first point. -/
abbrev cond1 (i : grid0.Coords) : Prop :=
  Scalar.cmpi .ne ((Scalar.extui (Scalar.cmpi .eq (BitVec.ofNat 32 (i 0).val) 0#32) : BitVec 32)) 0#32 = 1#1

set_option maxHeartbeats 4000000 in
noncomputable def runB (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : ¬ cond1 i) (h2 : ¬ k0_cond2 i = 1#1) (x : Vec F S1x60x192x128 .bf16) (xs : Vec F S2x64x128 .bf16) :
    { LS : List (View.Piece (Elt F) S2x64x128 .bf16) //
      ∀ (E : Set ℕ) (K : PUnit → sProp 𝕄),
        iprop(owns (c : Thread nD τ) arg1 fullShare x ∗ owns (c : Thread nD τ) arg4 fullShare xs
            ∗ (iprop(owns (c : Thread nD τ) arg1 fullShare x ∗ (arg4.view.loc (c : Thread nD τ) ↦[arg4.view.set]{fullShare} arg4.view.writes (Elt F) (harg4.unread xs) LS)) -∗ K ⟨⟩))
          ⊢ wp frame (wpE (defs₀ (F := F)) Variants.none c none) E (cc0_amax i arg1 harg1 arg2 harg2 arg3 harg3 arg4 harg4) K } := by
  refine ⟨?_, fun E K => ?run⟩
  case run =>
    simp only [cc0_amax_eq_skeleton]; unfold cc0_amax_skel
    simp only [k0_part1_eq_skeleton, k0_part2_eq_skeleton, k0_part3_eq_skeleton]; unfold k0_part3_skel; rw [dif_neg h1]; simp only [bind_assoc, pure_bind]
    unfold owns
    iintro ⟨⟨%f0, %hf0, H0⟩, ⟨%fs0, %hfs0, HS0⟩, Hk⟩
    obtain rfl := harg1.eq_unread hf0; obtain rfl := harg4.eq_unread hfs0
    sl_exec (disch := first | sl_exact h1 | sl_exact h2)
    sl_step
    iapply Hk
    isplitl [H0]
    · iexists _; isplitr; · ipureintro; exact harg1.read_unread _
      iexact H0
    iexact HS0

set_option maxHeartbeats 4000000 in
noncomputable def runA (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : cond1 i) (ho : k0_off2 i = ![0, 0, 0]) (h2 : ¬ k0_cond2 i = 1#1) (x : Vec F S1x60x192x128 .bf16)  :
    { LS : List (View.Piece (Elt F) S2x64x128 .bf16) //
      ∀ (E : Set ℕ) (K : PUnit → sProp 𝕄),
        iprop(owns (c : Thread nD τ) arg1 fullShare x ∗ (∃ d, owns (c : Thread nD τ) arg4 fullShare d)
            ∗ (iprop(owns (c : Thread nD τ) arg1 fullShare x ∗ (∃ f, arg4.view.loc (c : Thread nD τ) ↦[arg4.view.set]{fullShare} arg4.view.writes (Elt F) f LS)) -∗ K ⟨⟩))
          ⊢ wp frame (wpE (defs₀ (F := F)) Variants.none c none) E (cc0_amax i arg1 harg1 arg2 harg2 arg3 harg3 arg4 harg4) K } := by
  refine ⟨?_, fun E K => ?run⟩
  case run =>
    simp only [cc0_amax_eq_skeleton]; unfold cc0_amax_skel
    simp only [k0_part1_eq_skeleton, k0_part2_eq_skeleton, k0_part3_eq_skeleton]; unfold k0_part3_skel; rw [dif_pos h1]; simp only [bind_assoc, pure_bind]
    letI : ClosedOff (k0_off2 i) := ⟨![0, 0, 0], ho⟩
    unfold owns
    iintro ⟨⟨%f0, %hf0, H0⟩, ⟨%ds0, %fs0, -, HS0⟩, Hk⟩
    obtain rfl := harg1.eq_unread hf0
    sl_exec (disch := first | sl_exact h1 | sl_exact h2)
    sl_step
    iapply Hk
    isplitl [H0]
    · iexists _; isplitr; · ipureintro; exact harg1.read_unread _
      iexact H0
    iexists _; iexact HS0

set_option maxHeartbeats 4000000 in
noncomputable def runC (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : ¬ cond1 i) (ho : k0_off2 i = ![1, 0, 0]) (h2 : k0_cond2 i = 1#1) (x : Vec F S1x60x192x128 .bf16) (xs : Vec F S2x64x128 .bf16) :
    Σ' (L2 L3 : List (View.Piece (Elt F) S1 .f32)), { LS : List (View.Piece (Elt F) S2x64x128 .bf16) //
      ∀ (E : Set ℕ) (K : PUnit → sProp 𝕄),
        iprop(owns (c : Thread nD τ) arg1 fullShare x ∗ owns (c : Thread nD τ) arg4 fullShare xs ∗ (∃ d, owns (c : Thread nD τ) arg2 fullShare d) ∗ (∃ d, owns (c : Thread nD τ) arg3 fullShare d)
            ∗ (iprop(owns (c : Thread nD τ) arg1 fullShare x ∗ (arg4.view.loc (c : Thread nD τ) ↦[arg4.view.set]{fullShare} arg4.view.writes (Elt F) (harg4.unread xs) LS) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton, k0_part2_eq_skeleton, k0_part3_eq_skeleton]; unfold k0_part3_skel; rw [dif_neg h1]; simp only [bind_assoc, pure_bind]
    letI : ClosedOff (k0_off2 i) := ⟨![1, 0, 0], ho⟩
    unfold owns
    iintro ⟨⟨%f0, %hf0, H0⟩, ⟨%fs0, %hfs0, HS0⟩, ⟨%d2, %f2, -, H2⟩, ⟨%d3, %f3, -, H3⟩, Hk⟩
    obtain rfl := harg1.eq_unread hf0; obtain rfl := harg4.eq_unread hfs0
    sl_exec (disch := first | sl_exact h1 | sl_exact h2)
    sl_step
    iapply Hk
    isplitl [H0]
    · iexists _; isplitr; · ipureintro; exact harg1.read_unread _
      iexact H0
    isplitl [HS0]; · iexact HS0
    isplitl [H2]; · iexists _; iexact H2
    iexists _; iexact H3

theorem coord0 : ∀ t : Fin cfg0.N, (grid0.coords t 0).val = t.val := (by decide +kernel : ∀ t : Fin grid0.N, (grid0.coords t 0).val = t.val)
theorem hcond1 : ∀ t : Fin cfg0.N, cond1 (grid0.coords t) ↔ t.val = 0 := (by decide +kernel : ∀ t : Fin grid0.N, cond1 (grid0.coords t) ↔ t.val = 0)
theorem hcond2 : ∀ t : Fin cfg0.N, k0_cond2 (grid0.coords t) = 1#1 ↔ t.val = 71 := (by decide +kernel : ∀ t : Fin grid0.N, k0_cond2 (grid0.coords t) = 1#1 ↔ t.val = 71)
/-- The slab of the scratch that point `t` accumulates into: 1 at the last two of each eight frames. -/
theorem off2_eq : ∀ t : Fin cfg0.N, k0_off2 (grid0.coords t) = ![t.val / 3 % 8 / 6, 0, 0] := (by decide +kernel : ∀ t : Fin grid0.N, k0_off2 (grid0.coords t) = ![t.val / 3 % 8 / 6, 0, 0])

end Cert.ScalesIdeal.Gen

end
-- ==== Proof.ScaleState.lean ====
/- What a point of the scales' call leaves in the scratch, as plain functions of the point's block. -/
module

public import proofs.«01_k».proof.Proof.ScaleRun
public import Idealize.ShloMosaic.Lib.VecWindow

@[expose] public section

set_option maxRecDepth 16384

noncomputable section

namespace Cert.ScalesIdeal.Gen

open Idealize.ShloMosaic Idealize.ShloMosaic.TcCoe Idealize.ShloMosaic.Tactic

variable {F : FTy → Type} [FloatOps F]

/-! ## The largest magnitudes of a block -/

theorem inb_row (k : ℕ) (hk : k < 60) : ∀ a, (![0, k, 0, 0] : Fin 4 → ℕ) a + (![1, 1, 192, 128] : Fin 4 → ℕ) a ≤ S1x60x192x128.size a := fun a =>
  match a with
  | 0 => by show 0 + 1 ≤ 1; omega
  | 1 => by show k + 1 ≤ 60; omega
  | 2 => by show 0 + 192 ≤ 192; omega
  | 3 => by show 0 + 128 ≤ 128; omega

/-- The maximum after `n` rows of a block. -/
def rows (x : Vec F S1x60x192x128 .bf16) : ℕ → FVec F S64x128 .bf16
  | 0 => k0_pay12
  | n + 1 => if h : n < 60 then k0_pay13 (rows x n) (VecWindow.window x ![0, n, 0, 0] ![1, 1, 192, 128] (inb_row n h)) else rows x n

variable (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
  (x : Vec F S1x60x192x128 .bf16) (xs : Vec F S2x64x128 .bf16)

theorem trips60 : k0_t1_loop.trips = 60 := by decide +kernel

theorem trip_eq (k : Fin k0_t1_loop.trips) (acc : FVec F S64x128 .bf16) :
    tripR_k0_t1 Variants.none c none i arg1 harg1 arg2 harg2 arg3 harg3 arg4 harg4 (harg1.unread x) k acc
      = k0_pay13 acc (VecWindow.window x ![0, k.val, 0, 0] ![1, 1, 192, 128] (inb_row k.val (trips60 ▸ k.isLt))) := by
  unfold tripR_k0_t1 trip_k0_t1
  show k0_pay13 acc (View.readAt (Elt F) arg1.view (Rect.unit (s := S1x60x192x128) (k0_off1 k) S1x1x192x128.size (k0_off1_inb k)).toLoadRect (harg1.unread x)) = _
  rw [View.readAt_unit _ _ _ (k0_off1_eq k) (inb_row k.val (trips60 ▸ k.isLt)), harg1.read_unread]

theorem st_eq : ∀ n, n ≤ 60 → st_k0_t1 Variants.none c none i arg1 harg1 arg2 harg2 arg3 harg3 arg4 harg4 (harg1.unread x) k0_pay12 n = rows x n
  | 0, _ => rfl
  | n + 1, h => by
    have hn : n < k0_t1_loop.trips := by rw [trips60]; omega
    rw [st_k0_t1_succ _ _ _ _ _ _ _ _ _ _ _ _ _ _ ⟨n, hn⟩, trip_eq, st_eq n (by omega)]
    show _ = if h : n < 60 then _ else _
    rw [dif_pos (by omega : n < 60)]

theorem st_all : st_k0_t1 Variants.none c none i arg1 harg1 arg2 harg2 arg3 harg3 arg4 harg4 (harg1.unread x) k0_pay12 (Scf.trips 0#32 (Scalar.addi 0#32 60#32) 1#32) = rows x 60 :=
  (congrArg _ (by decide +kernel : Scf.trips 0#32 (Scalar.addi 0#32 60#32) 1#32 = 60)).trans (st_eq c i arg1 harg1 arg2 harg2 arg3 harg3 arg4 harg4 x 60 (Nat.le_refl _))

/-! ## The scratch -/

theorem inb_slab (k : ℕ) (hk : k < 2) : ∀ a, (![k, 0, 0] : Fin 3 → ℕ) a + (![1, 64, 128] : Fin 3 → ℕ) a ≤ S2x64x128.size a := fun a =>
  match a with
  | 0 => by show k + 1 ≤ 2; omega
  | 1 => by show 0 + 64 ≤ 64; omega
  | 2 => by show 0 + 128 ≤ 128; omega

/-- Slab `k` of the scratch. -/
def slab (k : ℕ) (hk : k < 2) (xs : Vec F S2x64x128 .bf16) : Vec F S1x64x128 .bf16 := VecWindow.window xs ![k, 0, 0] ![1, 64, 128] (inb_slab k hk)

/-- The scratch with slab `k` raised to the block's maximum. -/
def raise (k : ℕ) (hk : k < 2) (x : Vec F S1x60x192x128 .bf16) (xs : Vec F S2x64x128 .bf16) : Vec F S2x64x128 .bf16 :=
  VecWindow.put xs ![k, 0, 0] ![1, 64, 128] (k0_pay1 (rows x 60) (slab k hk xs))

/-- The two scales that the slabs give. -/
def xsOf (s1 s0 : Vec F S1x64x128 .bf16) : F .f32 := k0_pay7 (k0_pay4 s1 s0) (k0_pay5 s1 s0) (k0_pay6 s1 s0)
def ncsOf (s1 : Vec F S1x64x128 .bf16) : F .f32 := k0_pay2 (k0_pay8 (k0_pay3 s1)) (k0_pay9 (k0_pay3 s1)) (k0_pay10 (k0_pay3 s1))

theorem runB_read (h1 : ¬ cond1 i) (h2 : ¬ k0_cond2 i = 1#1) (k : ℕ) (hk : k < 2) (ho : k0_off2 i = ![k, 0, 0]) :
    arg4.view.read (Elt F) (arg4.view.writes (Elt F) (harg4.unread xs) (runB c i arg1 harg1 arg2 harg2 arg3 harg3 arg4 harg4 h1 h2 x xs).1) = raise k hk x xs := by
  dsimp only [runB]
  rw [View.read_writes_cons_put _ _ _ _ _ ho, View.writes_nil, harg4.read_unread, st_all, View.readAt_unit _ _ _ ho (inb_slab k hk), harg4.read_unread]
  rfl

theorem runA_read (h1 : cond1 i) (ho : k0_off2 i = ![0, 0, 0]) (h2 : ¬ k0_cond2 i = 1#1) (f : arg4.view.ty.Contents (Elt F)) :
    arg4.view.read (Elt F) (arg4.view.writes (Elt F) f (runA c i arg1 harg1 arg2 harg2 arg3 harg3 arg4 harg4 h1 ho h2 x).1) = raise 0 (by omega) x k0_pay11 := by
  dsimp only [runA]
  unfold runA.sl.v36 runA.sl.HS0_1 View.readCov
  rw [View.read_writes_cons_put _ _ _ _ _ ho, st_all, View.readAt_unit _ _ _ ho (inb_slab 0 (by omega))]
  rw [View.read_writes_full, View.read_writes_full]
  rfl

theorem runC_read (h1 : ¬ cond1 i) (ho : k0_off2 i = ![1, 0, 0]) (h2 : k0_cond2 i = 1#1) :
    arg4.view.read (Elt F) (arg4.view.writes (Elt F) (harg4.unread xs) (runC c i arg1 harg1 arg2 harg2 arg3 harg3 arg4 harg4 h1 ho h2 x xs).2.2.1) = raise 1 (by omega) x xs := by
  dsimp only [runC]
  unfold runC.sl.HS0_1
  rw [View.read_writes_cons_put _ _ _ _ _ ho, View.writes_nil, harg4.read_unread]
  refine congrArg (VecWindow.put xs ![1, 0, 0] ![1, 64, 128]) ?_
  rw [View.readAt_unit _ _ _ ho (inb_slab 1 (by omega)), harg4.read_unread]
  exact congrArg (fun r => k0_pay1 r _) (st_all c i arg1 harg1 arg2 harg2 arg3 harg3 arg4 harg4 x)

theorem v46_eq (ho : k0_off2 i = ![1, 0, 0]) : runC.sl.v46 c i arg1 harg1 arg2 harg2 arg3 harg3 arg4 harg4 x xs = slab 1 (by omega) (raise 1 (by omega) x xs) := by
  unfold runC.sl.v46 runC.sl.HS0_1 View.readCov
  rw [View.readAt_unit _ _ _ rfl (inb_slab 1 (by omega)), View.read_writes_cons_put _ _ _ _ _ ho]
  unfold slab raise
  rw [VecWindow.window_put_same, VecWindow.window_put_same, View.readAt_unit _ _ _ ho (inb_slab 1 (by omega)), harg4.read_unread]
  exact congrArg (fun r => k0_pay1 r _) (st_all c i arg1 harg1 arg2 harg2 arg3 harg3 arg4 harg4 x)

theorem v53_eq : runC.sl.v53 c arg4 harg4 xs = slab 0 (by omega) (raise 1 (by omega) x xs) := by
  unfold runC.sl.v53
  rw [View.readAt_unit _ _ _ rfl (inb_slab 0 (by omega)), harg4.read_unread]
  unfold slab raise
  rw [VecWindow.window_put_of_disjoint _ _ _ _ _ _ _ 0 (.inl (by decide))]

theorem runC_xs (h1 : ¬ cond1 i) (ho : k0_off2 i = ![1, 0, 0]) (h2 : k0_cond2 i = 1#1) (f : arg2.view.ty.Contents (Elt F)) :
    arg2.view.read (Elt F) (arg2.view.writes (Elt F) f (runC c i arg1 harg1 arg2 harg2 arg3 harg3 arg4 harg4 h1 ho h2 x xs).1)
      = fun _ => xsOf (slab 1 (by omega) (raise 1 (by omega) x xs)) (slab 0 (by omega) (raise 1 (by omega) x xs)) := by
  dsimp only [runC]
  rw [View.read_writes_full]
  unfold runC.sl.r_1 runC.sl.r_2 runC.sl.r_3
  rw [v46_eq _ _ _ _ _ _ _ _ _ _ _ _ ho, v53_eq c arg4 harg4 x xs]
  rfl

theorem runC_ncs (h1 : ¬ cond1 i) (ho : k0_off2 i = ![1, 0, 0]) (h2 : k0_cond2 i = 1#1) (f : arg3.view.ty.Contents (Elt F)) :
    arg3.view.read (Elt F) (arg3.view.writes (Elt F) f (runC c i arg1 harg1 arg2 harg2 arg3 harg3 arg4 harg4 h1 ho h2 x xs).2.1)
      = fun _ => ncsOf (slab 1 (by omega) (raise 1 (by omega) x xs)) := by
  dsimp only [runC]
  rw [View.read_writes_full]
  unfold runC.sl.r_5 runC.sl.r_6 runC.sl.r_7 runC.sl.r
  rw [v46_eq _ _ _ _ _ _ _ _ _ _ _ _ ho]
  rfl

end Cert.ScalesIdeal.Gen

end
-- ==== Proof.ScaleFrame.lean ====
/- The frame of the scales' call: its proof data, the body at every point, and the run. -/
module

public import proofs.«01_k».proof.Proof.ScaleState
public import Idealize.ShloMosaic.Lib.Claim

@[expose] public section

set_option maxRecDepth 16384

noncomputable section

namespace Cert.ScalesIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM : Memref sig .tc .vmem S2x64x128 .bf16 := Memref.whole cc0_scratch0

abbrev kk (n : ℕ) : ℕ := n / 3 % 8 / 6
theorem kk_lt (n : ℕ) : kk n < 2 := by unfold kk; omega

/-- The block of point `t`. -/
abbrev blkAt (c : Dev nD) (t : Fin cfg0.N) : Vec F S1x60x192x128 .bf16 := iblk m c 0 t

/-- The scratch after point `n`. -/
def scr (c : Dev nD) : (n : ℕ) → n < cfg0.N → Vec F S2x64x128 .bf16
  | 0, hn => raise (kk 0) (kk_lt 0) (blkAt m c ⟨0, hn⟩) k0_pay11
  | n + 1, hn => raise (kk (n + 1)) (kk_lt _) (blkAt m c ⟨n + 1, hn⟩) (scr c n (Nat.lt_of_succ_lt hn))

/-- The two scales that the scratch after point `n` gives. -/
def xsAt (c : Dev nD) (n : ℕ) (hn : n < cfg0.N) : Vec F S1 .f32 := fun _ => xsOf (slab 1 (by omega) (scr m c n hn)) (slab 0 (by omega) (scr m c n hn))
def ncsAt (c : Dev nD) (n : ℕ) (hn : n < cfg0.N) : Vec F S1 .f32 := fun _ => ncsOf (slab 1 (by omega) (scr m c n hn))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before position `n`: the scratch at what the point before left. -/
def PhiS (c : Dev nD) : (n : ℕ) → n ≤ cfg0.N → sProp 𝕄
  | 0, _ => Pipeline.ΦA spec0 c
  | n + 1, hn => iprop(owns (c : Thread nD τ) scM fullShare (scr m c n hn) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xsAt m c t.val t.isLt
    | ⟨2, _⟩ => ncsAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = xsAt m c t.val t.isLt := by dsimp only [dats]
theorem after0_2 (c : Dev nD) (t : Fin cfg0.N) : (dats m 0 c).after 2 t = ncsAt m c t.val t.isLt := by dsimp only [dats]

theorem before0_0 (c : Dev nD) (t : Fin cfg0.N) (d) : (dats m 0 c).before 0 t d = iblk m c 0 t :=
  before0_0_of m (dats m 0 c) (A_eq m c 0) (after0_0 m c) t d

/-! ## The body at a point -/

theorem PhiS_pos (c : Dev nD) (n : ℕ) (h : n ≤ cfg0.N) (hz : n ≠ 0) :
    PhiS m c n h = iprop(owns (c : Thread nD τ) scM fullShare (scr m c (n - 1) (by omega)) ∗ (∃ r, prngReg c r)) := by
  cases n with
  | zero => exact absurd rfl hz
  | succ n => rfl

theorem scr_zero (c : Dev nD) (t : Fin cfg0.N) (hz : t.val = 0) : scr m c t.val t.isLt = raise 0 (by omega) (blkAt m c t) k0_pay11 := by
  obtain ⟨n, hn⟩ := t
  cases n with
  | zero => rfl
  | succ n => exact absurd hz (Nat.succ_ne_zero n)

theorem scr_pos (c : Dev nD) (t : Fin cfg0.N) (hz : t.val ≠ 0) :
    scr m c t.val t.isLt = raise (kk t.val) (kk_lt _) (blkAt m c t) (scr m c (t.val - 1) (by omega)) := by
  obtain ⟨n, hn⟩ := t
  cases n with
  | zero => exact absurd rfl hz
  | succ n => rfl

theorem raise_congr {k k' : ℕ} (h : k = k') (hk : k < 2) (hk' : k' < 2) (x : Vec F S1x60x192x128 .bf16) (xs : Vec F S2x64x128 .bf16) : raise k hk x xs = raise k' hk' x xs := by
  subst h; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (dats m 0 c).leavesExact 1 t
    ∗ (dats m 0 c).leavesExact 2 t)

theorem idle_of (t : Fin cfg0.N) (h : ¬ k0_cond2 (grid0.coords t) = 1#1) :
    cfg0.idle 1 (cfg0.grid.coords t) = true ∧ cfg0.idle 2 (cfg0.grid.coords t) = true := by
  have e : (!(k0_cond2 (grid0.coords t) == 1#1)) = true := by simp [h]
  exact ⟨e, e⟩

theorem busy_of (t : Fin cfg0.N) (h : k0_cond2 (grid0.coords t) = 1#1) :
    cfg0.idle 1 (cfg0.grid.coords t) = false ∧ cfg0.idle 2 (cfg0.grid.coords t) = false := by
  have e : (!(k0_cond2 (grid0.coords t) == 1#1)) = false := by simp [h]
  exact ⟨e, e⟩

theorem noflush (t : Fin cfg0.N) (h : ¬ t.val = 71) : (cfg0.win 1).flush t = false ∧ (cfg0.win 2).flush t = false := by
  have hN : t.val < 72 := lt_of_lt_of_eq t.isLt (show cfg0.N = 72 from N_0)
  constructor
  · exact Bool.eq_false_iff.2 fun e => by have := (flush0_1 t).1 e; omega
  · exact Bool.eq_false_iff.2 fun e => by have := (flush0_2 t).1 e; omega

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0]
  rw [show (dats m 0 c).Φ t.succ = iprop(owns (c : Thread nD τ) scM fullShare (scr m c t.val t.isLt) ∗ (∃ r, prngReg c r)) from rfl]
  have hN : t.val < 72 := lt_of_lt_of_eq t.isLt (show cfg0.N = 72 from N_0)
  rw [PhiS_castSucc m c t]
  by_cases h71 : t.val = 71
  · have hz : t.val ≠ 0 := by omega
    have h2 := (hcond2 t).2 h71
    have h1 : ¬ cond1 (grid0.coords t) := fun h => hz ((hcond1 t).1 h)
    have ho : k0_off2 (grid0.coords t) = ![1, 0, 0] := by rw [off2_eq t, h71]
    have hs : scr m c t.val t.isLt = raise 1 (by omega) (blkAt m c t) (scr m c (t.val - 1) (by omega)) := by
      rw [scr_pos m c t hz]; exact raise_congr (by unfold kk; rw [h71]) _ _ _ _
    have e1 : (dats m 0 c).leavesExact 1 t = owns (c : Thread nD τ) (st0_1 t) fullShare (xsAt m c t.val t.isLt) := by
      unfold Dat.leavesExact; rw [(busy_of t h2).1, after0_1]
    have e2 : (dats m 0 c).leavesExact 2 t = owns (c : Thread nD τ) (st0_2 t) fullShare (ncsAt m c t.val t.isLt) := by
      unfold Dat.leavesExact; rw [(busy_of t h2).2, after0_2]
    rw [e1, e2, PhiS_pos m c _ _ hz]
    unfold xsAt ncsAt
    rw [hs]
    iintro ⟨⟨HS, Hg⟩, Ho, ⟨%d0, H0⟩, ⟨%d1, H1⟩, ⟨%d2, H2⟩⟩
    iapply ((runC c (grid0.coords t) _ _ _ _ _ _ _ _ h1 ho h2 (blkAt m c t) (scr m c (t.val - 1) (by omega))).2.2.2 Set.univ _)
    isplitl [H0]; · iexact H0
    isplitl [HS]; · iexact HS
    isplitl [H1]; · iexists _; iexact H1
    isplitl [H2]; · iexists _; iexact H2
    iintro ⟨H0, HS, ⟨%f1, H1⟩, ⟨%f2, H2⟩⟩
    isplitl [HS Hg]
    · isplitl [HS]
      · unfold owns; iexists _; isplitr
        swap; · iexact HS
        ipureintro; exact runC_read c _ _ _ _ _ _ _ _ _ _ _ h1 ho h2
      iexact Hg
    isplitl [Ho]; · iexact Ho
    isplitl [H0]; · iexact H0
    isplitl [H1]
    · unfold owns; iexists _; isplitr
      swap; · iexact H1
      ipureintro; exact runC_xs c _ _ _ _ _ _ _ _ _ _ _ h1 ho h2 _
    unfold owns; iexists _; isplitr
    swap; · iexact H2
    ipureintro; exact runC_ncs c _ _ _ _ _ _ _ _ _ _ _ h1 ho h2 _
  · have h2 : ¬ k0_cond2 (grid0.coords t) = 1#1 := fun h => h71 ((hcond2 t).1 h)
    rw [Dat.leavesExact_idle _ _ _ (idle_of t h2).1 (noflush t h71).1, Dat.leavesExact_idle _ _ _ (idle_of t h2).2 (noflush t h71).2]
    by_cases hz : t.val = 0
    · have h1 := (hcond1 t).2 hz
      have ho : k0_off2 (grid0.coords t) = ![0, 0, 0] := by rw [off2_eq t, hz]
      rw [scr_zero m c t hz, show PhiS m c t.val (Nat.le_of_lt t.isLt) = Pipeline.ΦA spec0 c from by
        obtain ⟨n, hn⟩ := t; cases n with
        | zero => rfl
        | succ n => exact absurd hz (Nat.succ_ne_zero n), PhiA_eq]
      iintro ⟨⟨HS, Hg⟩, Ho, ⟨%d0, H0⟩, ⟨%d1, H1⟩, ⟨%d2, H2⟩⟩
      iapply ((runA c (grid0.coords t) _ _ (st0_1 t) (hstage0_1 ((cfg0.slots t 1).cast nbuf0_1)) (st0_2 t) (hstage0_2 ((cfg0.slots t 2).cast nbuf0_2)) _ _ h1 ho h2 (blkAt m c t)).2 Set.univ _)
      isplitl [H0]; · iexact H0
      isplitl [HS]; · iexact HS
      iintro ⟨H0, ⟨%f, HS⟩⟩
      isplitl [HS Hg]
      · isplitl [HS]
        · unfold owns; iexists _; isplitr
          swap; · iexact HS
          ipureintro; exact runA_read c _ _ _ _ _ _ _ _ _ _ h1 ho h2 _
        iexact Hg
      isplitl [Ho]; · iexact Ho
      isplitl [H0]; · iexact H0
      isplitl [H1]; · iexists _; iexact H1
      iexists _; iexact H2
    · have h1 : ¬ cond1 (grid0.coords t) := fun h => hz ((hcond1 t).1 h)
      rw [scr_pos m c t hz, PhiS_pos m c _ _ hz]
      iintro ⟨⟨HS, Hg⟩, Ho, ⟨%d0, H0⟩, ⟨%d1, H1⟩, ⟨%d2, H2⟩⟩
      iapply ((runB c (grid0.coords t) _ _ (st0_1 t) (hstage0_1 ((cfg0.slots t 1).cast nbuf0_1)) (st0_2 t) (hstage0_2 ((cfg0.slots t 2).cast nbuf0_2)) _ _ h1 h2 (blkAt m c t) (scr m c (t.val - 1) (by omega))).2 Set.univ _)
      isplitl [H0]; · iexact H0
      isplitl [HS]; · iexact HS
      iintro ⟨H0, HS⟩
      isplitl [HS Hg]
      · isplitl [HS]
        · unfold owns; iexists _; isplitr
          swap; · iexact HS
          ipureintro; exact runB_read c _ _ _ _ _ _ _ _ _ _ _ h1 h2 _ _ (off2_eq t)
        iexact Hg
      isplitl [Ho]; · iexact Ho
      isplitl [H0]; · iexact H0
      isplitl [H1]; · iexists _; iexact H1
      iexists _; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 72 := N_0; omega), PhiA_eq]
  iintro ⟨HS, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.ScalesIdeal.Gen

end
-- ==== Proof.ScaleMax.lean ====
/- The kernel's maxima over the reals, each told by the bounds that hold of it. -/
module

public import proofs.«01_k».proof.Proof.ScaleFrame
public import Idealize.ShloMosaic.Lib.Pointwise
public import Idealize.ShloMosaic.PureOps.Ideal.Laws
public import Idealize.ShloMosaic.Lib.Pipeline.ValueKit
public import Idealize.ShloMosaic.Lib.Pipeline.ValueKit.Tiles

@[expose] public section

set_option maxRecDepth 16384

noncomputable section

namespace Scales

open Idealize.ShloMosaic

/-- The magnitude of a value. -/
def mag (v : EReal) : EReal := max v (-v)

theorem mag_nonneg (v : EReal) : 0 ≤ mag v := by
  unfold mag
  rcases le_total 0 v with h | h
  · exact le_max_of_le_left h
  · exact le_max_of_le_right (EReal.neg_nonneg.2 h)

/-- A bound on a maximum from minus infinity is a bound on what it ranges over. -/
theorem red_le {φ : FTy} {s t : Shape} {axes : List (Fin s.rank)} (src : FVec Ideal s φ) (acc : BitVec φ.bits) (h : s.Reduces axes t)
    (hφ : FKind.Formats φ) (hacc : acc = FKind.maximumf.neutral φ hφ) (hb : (FloatOps.ofBits φ acc : Ideal φ) = (⊥ : EReal)) (j : t.Idx) (b : EReal) :
    (multiReduction .maximumf axes t src acc h hφ hacc j : EReal) ≤ b ↔ ∀ i, h.drop i = j → (src i : EReal) ≤ b := by
  rw [multiReduction_maximumf_eq_fold, hb]
  have e := Finset.fold_max_le (s := Finset.univ.filter fun i => h.drop i = j) (f := fun i => (src i : EReal)) (b := (⊥ : EReal)) b
  refine Iff.trans e ?_
  simp

theorem ninf32 : (FloatOps.ofBits .f32 0xFF800000#32 : Ideal .f32) = (⊥ : EReal) := by
  show Ideal.ofBits .f32 0xFF800000#32 = ⊥
  simp [Ideal.ofBits, Ideal.ieee]

theorem ninf16 : (FloatOps.ofBits .bf16 0xFF80#16 : Ideal .bf16) = (⊥ : EReal) := by
  show Ideal.ofBits .bf16 0xFF80#16 = ⊥
  simp [Ideal.ofBits, Ideal.ieee]

theorem one_idx (i j : (⟨1, ![1]⟩ : Shape).Idx) : i = j :=
  funext fun a => match a with
    | ⟨0, _⟩ => Subsingleton.elim (α := Fin 1) _ _

end Scales

namespace Cert.ScalesIdeal.Gen

open Idealize.ShloMosaic Idealize.ShloMosaic.TcCoe Idealize.ShloMosaic.Tactic
open _root_.Scales

/-- The scale of a maximum. -/
def scaleOf {F : FTy → Type} [FloatOps F] (v : F .f32) : F .f32 := k0_pay2 (k0_pay8 v) (k0_pay9 v) (k0_pay10 v)

theorem ncsOf_eq {F : FTy → Type} [FloatOps F] (s1 : Vec F S1x64x128 .bf16) : ncsOf s1 = scaleOf (k0_pay3 s1) := rfl

theorem xsOf_eq {F : FTy → Type} [FloatOps F] (s1 s0 : Vec F S1x64x128 .bf16) : xsOf s1 s0 = scaleOf (Scalar.maximumf (k0_pay3 s0) (k0_pay3 s1)) := rfl

/-- The maximum of a slab. -/
theorem slab_max (v : Vec Ideal S1x64x128 .bf16) (b : EReal) : (k0_pay3 v : EReal) ≤ b ↔ ∀ z, (v z : EReal) ≤ b := by
  unfold k0_pay3
  dsimp only
  rw [extractAt_eq, Pointwise.shapeCast_apply]
  refine (red_le _ _ _ _ _ ninf32 _ b).trans ⟨fun h z => ?_, fun h i _ => ?_⟩
  · have := h z (one_idx _ _)
    rw [Pointwise.shapeCast_apply] at this
    change (shapeCast S64x128 v _ _ : EReal) ≤ b at this
    rw [Pointwise.shapeCast_apply, Shape.reshapeEquiv_reshapeEquiv, Shape.reshapeEquiv_self] at this
    exact this
  · rw [Pointwise.shapeCast_apply]
    change (shapeCast S64x128 v _ _ : EReal) ≤ b
    rw [Pointwise.shapeCast_apply]
    exact h _

/-- A step of the row loop. -/
theorem row_le (acc : FVec Ideal S64x128 .bf16) (row : Vec Ideal S1x1x192x128 .bf16) (r : Fin 64) (w : Fin 128) (b : EReal) :
    (k0_pay13 acc row (ix2 r w) : EReal) ≤ b ↔ (acc (ix2 r w) : EReal) ≤ b ∧ ∀ g : Fin 3, mag (row (ix4 0 0 ⟨64 * g.val + r.val, by omega⟩ w)) ≤ b := by
  have e : (k0_pay13 acc row (ix2 r w) : EReal) = max (acc (ix2 r w) : EReal)
      (multiReduction .maximumf [0] S64x128 (shapeCast S3x64x128 (absf (shapeCast S192x128 row shapeCasts_S1x1x192x128_S192x128)) shapeCasts_S192x128_S3x64x128)
        0xFF80#16 reduces_S3x64x128_S64x128 (.inr rfl) rfl (ix2 r w)) := rfl
  rw [e, max_le_iff]
  refine and_congr_right fun _ => ?_
  have ev : ∀ g : Fin 3, (shapeCast S3x64x128 (absf (F := Ideal) (φ := .bf16) (shapeCast S192x128 row shapeCasts_S1x1x192x128_S192x128) : FVec Ideal S192x128 .bf16) shapeCasts_S192x128_S3x64x128 (ix3 g r w) : Ideal .bf16)
      = mag (row (ix4 0 0 ⟨64 * g.val + r.val, by omega⟩ w)) := fun g => by
    unfold mag
    pointwise []
    have e : (⟨g.val * 64 + r.val, by omega⟩ : Fin 192) = ⟨64 * g.val + r.val, by omega⟩ := Fin.ext (by show g.val * 64 + r.val = 64 * g.val + r.val; omega)
    exact (congrArg (fun d => mag (row (ix4 0 0 d w))) e)
  refine (red_le _ _ _ _ _ ninf16 _ b).trans ⟨fun h g => ?_, fun h i hi => ?_⟩
  · rw [← ev g]
    refine h _ ?_
    funext a
    match a with
    | 0 => rfl
    | 1 => rfl
  · have ei : i = ix3 (i 0) r w := by
      funext a
      match a with
      | 0 => rfl
      | 1 => exact congrFun hi 0
      | 2 => exact congrFun hi 1
    rw [ei]
    exact (ev (i 0)).le.trans (h (i 0))

/-- A bound on the maximum of the first rows of a block. -/
theorem rows_le (x : Vec Ideal S1x60x192x128 .bf16) (r : Fin 64) (w : Fin 128) (b : EReal) : ∀ n, n ≤ 60 →
    ((rows x n (ix2 r w) : EReal) ≤ b ↔ 0 ≤ b ∧ ∀ k : Fin 60, k.val < n → ∀ g : Fin 3, mag (x (ix4 0 k ⟨64 * g.val + r.val, by omega⟩ w)) ≤ b)
  | 0, _ => by
    have e : (rows x 0 (ix2 r w) : EReal) = 0 := by
      show Ideal.ofBits .bf16 0x0000#16 = 0
      simp [Ideal.ofBits, Ideal.ieee]
    rw [e]
    exact ⟨fun h => ⟨h, fun k hk => absurd hk (Nat.not_lt_zero _)⟩, fun h => h.1⟩
  | n + 1, hn => by
    have e : rows x (n + 1) = k0_pay13 (rows x n) (VecWindow.window x ![0, n, 0, 0] ![1, 1, 192, 128] (inb_row n (by omega))) := by
      show (if h : n < 60 then _ else _) = _
      rw [dif_pos (by omega : n < 60)]
    have ex : ∀ (d : Fin 192), VecWindow.window x ![0, n, 0, 0] ![1, 1, 192, 128] (inb_row n (by omega)) (ix4 0 0 d w : S1x1x192x128.Idx) = x (ix4 0 ⟨n, by omega⟩ d w) := fun d => by
      refine congrArg x (funext fun a => Fin.ext ?_)
      match a with
      | 0 => rfl
      | 1 => rfl
      | 2 => show 0 + 1 * d.val = d.val; omega
      | 3 => show 0 + 1 * w.val = w.val; omega
    rw [e]
    refine (row_le _ _ r w b).trans ?_
    rw [rows_le x r w b n (by omega)]
    simp only [and_assoc]
    refine and_congr_right fun _ => ⟨fun h k hk g => ?_, fun h => ⟨fun k hk g => h k (by omega) g, fun g => ?_⟩⟩
    · rcases Nat.lt_succ_iff_lt_or_eq.1 hk with hk | hk
      · exact h.1 k hk g
      · have := h.2 g
        rw [ex] at this
        exact (congrArg (fun k => mag (x (ix4 0 k ⟨64 * g.val + r.val, by omega⟩ w))) (Fin.ext hk : k = ⟨n, by omega⟩)).le.trans this
    · rw [ex]
      exact h ⟨n, by omega⟩ (Nat.lt_succ_self n) g

/-- The slab that a point raises. -/
theorem slab_raise (k : ℕ) (hk : k < 2) (x : Vec Ideal S1x60x192x128 .bf16) (xs : Vec Ideal S2x64x128 .bf16) (r : Fin 64) (w : Fin 128) :
    (slab k hk (raise k hk x xs) (ix3 0 r w : S1x64x128.Idx) : EReal) = max (slab k hk xs (ix3 0 r w : S1x64x128.Idx) : EReal) (rows x 60 (ix2 r w)) := by
  unfold slab raise
  rw [VecWindow.window_put_same]
  unfold k0_pay1 slab
  pointwise []
  done

/-- The other slab stays. -/
theorem slab_other (k k' : ℕ) (hk : k < 2) (hk' : k' < 2) (h : k' ≠ k) (x : Vec Ideal S1x60x192x128 .bf16) (xs : Vec Ideal S2x64x128 .bf16) :
    slab k hk (raise k' hk' x xs) = slab k hk xs := by
  unfold slab raise
  refine VecWindow.window_put_of_disjoint _ _ _ _ _ _ _ 0 ?_
  rcases Nat.lt_or_gt_of_ne h with h | h
  · exact .inr (by show k' + 1 ≤ k; omega)
  · exact .inl (by show k + 1 ≤ k'; omega)

variable (m : (ℓ : Loc nD τ sig) → Buf (Elt Ideal) ℓ) (c : Dev nD)

/-- The scratch after the first point. -/
theorem scr_z {F : FTy → Type} [FloatOps F] (m : (ℓ : Loc nD τ sig) → Buf (Elt F) ℓ) (c : Dev nD) (hn : 0 < cfg0.N) :
    scr m c 0 hn = raise (kk 0) (kk_lt 0) (blkAt m c ⟨0, hn⟩) k0_pay11 := by
  unfold scr
  rfl

/-- A bound on an element of the scratch. -/
theorem scr_le (k : ℕ) (hk : k < 2) (r : Fin 64) (w : Fin 128) (b : EReal) : ∀ n (hn : n < cfg0.N),
    ((slab k hk (scr m c n hn) (ix3 0 r w : S1x64x128.Idx) : Ideal .bf16) ≤ b ↔ 0 ≤ b ∧ ∀ t : Fin cfg0.N, t.val ≤ n → kk t.val = k → (rows (blkAt m c t) 60 (ix2 r w) : EReal) ≤ b)
  | 0, hn => by
    have e0 : (slab (F := Ideal) k hk (k0_pay11 (F := Ideal)) (ix3 0 r w : S1x64x128.Idx) : EReal) = 0 := by
      show Ideal.ofBits .bf16 0x0000#16 = 0
      simp [Ideal.ofBits, Ideal.ieee]
    have ez : ∀ t : Fin cfg0.N, t.val ≤ 0 → t = ⟨0, hn⟩ := fun t h => Fin.ext (by show t.val = 0; omega)
    rw [scr_z]
    by_cases h : kk 0 = k
    · subst h
      rw [slab_raise, max_le_iff, e0]
      refine and_congr_right fun _ => ⟨fun h t ht _ => ?_, fun h => h ⟨0, hn⟩ (Nat.le_refl 0) rfl⟩
      rw [ez t ht]; exact h
    · rw [slab_other _ _ _ _ h, e0]
      exact ⟨fun hb => ⟨hb, fun t ht hk' => absurd ((congrArg (fun t : Fin cfg0.N => kk t.val) (ez t ht)).symm.trans hk') h⟩, fun h => h.1⟩
  | n + 1, hn => by
    have ih := scr_le k hk r w b n (Nat.lt_of_succ_lt hn)
    rw [show scr m c (n + 1) hn = raise (kk (n + 1)) (kk_lt _) (blkAt m c ⟨n + 1, hn⟩) (scr m c n (Nat.lt_of_succ_lt hn)) from rfl]
    by_cases h : kk (n + 1) = k
    · subst h
      rw [slab_raise, max_le_iff, ih, and_assoc]
      refine and_congr_right fun _ => ⟨fun h t ht hk' => ?_, fun h => ⟨fun t ht => h t (by omega), h ⟨n + 1, hn⟩ (Nat.le_refl _) rfl⟩⟩
      rcases Nat.le_succ_iff.1 ht with ht | ht
      · exact h.1 t ht hk'
      · rw [(Fin.ext ht : t = ⟨n + 1, hn⟩)]; exact h.2
    · rw [slab_other _ _ _ _ h, ih]
      refine and_congr_right fun _ => ⟨fun h' t ht hk' => ?_, fun h' t ht => h' t (by omega)⟩
      rcases Nat.le_succ_iff.1 ht with ht | ht
      · exact h' t ht hk'
      · exact absurd ((congrArg kk ht).symm.trans hk') h

/-! ## The blocks -/

abbrev argX : Vec Ideal S3x8x180x128x192 .bf16 := m ((c : Thread nD τ).loc main_arg0)

theorem idx0 : ∀ t : Fin cfg0.N, win0_0.index t (0 : Fin 4) = t.val / 3 ∧ win0_0.index t (1 : Fin 4) = t.val % 3 ∧ win0_0.index t (2 : Fin 4) = 0 ∧ win0_0.index t (3 : Fin 4) = 0 :=
  (by decide +kernel : ∀ t : Fin grid0.N, _)

theorem lt72 (t : Fin cfg0.N) : t.val < 72 := lt_of_lt_of_eq t.isLt (show cfg0.N = 72 from N_0)

theorem emb0 (t : Fin cfg0.N) (k : Fin 60) (d : Fin 192) (w : Fin 128) :
    ((cfg0.win 0).blk t).view.emb (ix4 0 k d w : S1x60x192x128.Idx) = (ix4 ⟨t.val / 3, by have := lt72 t; omega⟩ ⟨60 * (t.val % 3) + k.val, by omega⟩ d w : S24x180x192x128.Idx) := by
  obtain ⟨e0, e1, e2, e3⟩ := idx0 t
  funext a; apply Fin.ext
  match a with
  | ⟨0, _⟩ => show win0_0.index t (0 : Fin 4) * 1 + 1 * 0 = t.val / 3; omega
  | ⟨1, _⟩ => show win0_0.index t (1 : Fin 4) * 60 + 1 * k.val = 60 * (t.val % 3) + k.val; omega
  | ⟨2, _⟩ => show win0_0.index t (2 : Fin 4) * 192 + 1 * d.val = d.val; omega
  | ⟨3, _⟩ => show win0_0.index t (3 : Fin 4) * 128 + 1 * w.val = w.val; omega

theorem V_v1 : V m c main_v1 = shapeCast S24x180x192x128 (transpose S3x8x180x192x128 [0, 1, 2, 4, 3] (argX m c) transposes_S3x8x180x128x192_S3x8x180x192x128_0_1_2_4_3)
    shapeCasts_S3x8x180x192x128_S24x180x192x128 := rfl

theorem frames_apply (v : Vec Ideal S3x8x180x128x192 .bf16) (q : Fin 24) (r : Fin 180) (d : Fin 192) (w : Fin 128) :
    shapeCast S24x180x192x128 (transpose S3x8x180x192x128 [0, 1, 2, 4, 3] v transposes_S3x8x180x128x192_S3x8x180x192x128_0_1_2_4_3)
      shapeCasts_S3x8x180x192x128_S24x180x192x128 (ix4 q r d w) = v (ix5 ⟨q.val / 8, by omega⟩ ⟨q.val % 8, by omega⟩ r w d) := by
  pointwise []
  done

/-- What a block of the grid holds. -/
theorem blk_apply (t : Fin cfg0.N) (k : Fin 60) (d : Fin 192) (w : Fin 128) :
    (blkAt m c t (ix4 0 k d w) : EReal) = argX m c (ix5 ⟨t.val / 24, by have := lt72 t; omega⟩ ⟨t.val / 3 % 8, by omega⟩ ⟨60 * (t.val % 3) + k.val, by omega⟩ w d) := by
  show V m c main_v1 (((cfg0.win 0).blk t).view.emb (ix4 0 k d w : S1x60x192x128.Idx)) = _
  rw [emb0, V_v1, frames_apply]
  refine congrArg (argX m c) ?_
  funext a; apply Fin.ext
  match a with
  | 0 => show t.val / 3 / 8 = t.val / 24; omega
  | 1 => rfl
  | 2 => rfl
  | 3 => rfl
  | 4 => rfl

/-! ## The maxima -/

theorem n71 : 71 < cfg0.N := lt_of_lt_of_eq (by omega) (show 72 = cfg0.N from N_0.symm)

/-- The maximum of a slab after the last point: over the frames that it is for. -/
theorem scrMax_le (k : ℕ) (hk : k < 2) (b : EReal) :
    (k0_pay3 (slab k hk (scr m c 71 n71)) : EReal) ≤ b ↔ 0 ≤ b ∧ ∀ (i : Fin 3) (f : Fin 8), f.val / 6 = k → ∀ (r : Fin 180) (p : Fin 128) (d : Fin 192), mag (argX m c (ix5 i f r p d)) ≤ b := by
  refine (slab_max _ b).trans ⟨fun h => ?_, fun h z => ?_⟩
  · have h' := fun r w => (scr_le m c k hk r w b 71 n71).1 (h (ix3 0 r w : S1x64x128.Idx))
    refine ⟨(h' 0 0).1, fun i f hf r p d => ?_⟩
    have ht : 24 * i.val + 3 * f.val + r.val / 60 < cfg0.N := lt_of_lt_of_eq (by omega) (show 72 = cfg0.N from N_0.symm)
    have e := ((rows_le _ ⟨d.val % 64, by omega⟩ p b 60 (Nat.le_refl 60)).1 ((h' ⟨d.val % 64, by omega⟩ p).2 ⟨24 * i.val + 3 * f.val + r.val / 60, ht⟩
      (by show 24 * i.val + 3 * f.val + r.val / 60 ≤ 71; omega) (by show (24 * i.val + 3 * f.val + r.val / 60) / 3 % 8 / 6 = k; omega))).2 ⟨r.val % 60, by omega⟩ (by show r.val % 60 < 60; omega)
      ⟨d.val / 64, by omega⟩
    rw [blk_apply] at e
    refine le_trans (le_of_eq (congrArg (fun z => mag (argX m c z)) ?_)) e
    funext a; apply Fin.ext
    match a with
    | 0 => show i.val = (24 * i.val + 3 * f.val + r.val / 60) / 24; omega
    | 1 => show f.val = (24 * i.val + 3 * f.val + r.val / 60) / 3 % 8; omega
    | 2 => show r.val = 60 * ((24 * i.val + 3 * f.val + r.val / 60) % 3) + r.val % 60; omega
    | 3 => rfl
    | 4 => show d.val = 64 * (d.val / 64) + d.val % 64; omega
  · have ez : z = (ix3 0 (z 1) (z 2) : S1x64x128.Idx) := funext fun a => match a with
      | 0 => Subsingleton.elim (α := Fin 1) _ _
      | 1 => rfl
      | 2 => rfl
    rw [ez]
    refine (scr_le m c k hk (z 1) (z 2) b 71 n71).2 ⟨h.1, fun t _ hk' => ?_⟩
    refine (rows_le _ (z 1) (z 2) b 60 (Nat.le_refl 60)).2 ⟨h.1, fun q _ g => ?_⟩
    exact (le_of_eq (congrArg mag (blk_apply m c t q _ _))).trans (h.2 _ _ hk' _ _ _)

end Cert.ScalesIdeal.Gen
-- ==== Proof.ScalePow.lean ====
/- The powers of two over the reals, and the kernel's search among them: it ends at the smallest one above its argument. -/
module

public import proofs.«01_k».proof.Proof.ScaleMax

@[expose] public section

set_option maxRecDepth 16384

noncomputable section

namespace Scales

open Idealize.ShloMosaic

/-- The power of two number `n`, from the smallest normal one. -/
def P (n : ℕ) : EReal := (((2 : ℝ) ^ ((n : ℤ) - 126) : ℝ) : EReal)

theorem P_le {n k : ℕ} (h : n ≤ k) : P n ≤ P k :=
  EReal.coe_le_coe_iff.2 (zpow_le_zpow_right₀ (by norm_num) (by omega))

theorem P_lt {n k : ℕ} (h : P n < P k) : n < k := by
  by_contra hn
  exact absurd (P_le (Nat.le_of_not_lt hn)) (not_le.2 h)

theorem P_mul (n k : ℕ) : P n * (((2 : ℝ) ^ k : ℝ) : EReal) = P (n + k) := by
  unfold P
  rw [← EReal.coe_mul]
  congr 1
  rw [← zpow_natCast, ← zpow_add₀ (by norm_num)]
  congr 1
  push_cast
  ring

theorem sel_ge (x y a b : EReal) : Scalar.select (Ideal.cmp .oge x y) a b = if y ≤ x then a else b := by
  unfold Scalar.select Ideal.cmp
  by_cases h : y ≤ x <;> simp [h]

theorem sel_gt (x y a b : EReal) : Scalar.select (Ideal.cmp .ogt x y) a b = if y < x then a else b := by
  unfold Scalar.select Ideal.cmp
  by_cases h : y < x <;> simp [h]

theorem sel_eq (x y a b : EReal) : Scalar.select (Ideal.cmp .oeq x y) a b = if x = y then a else b := by
  unfold Scalar.select Ideal.cmp
  by_cases h : x = y <;> simp [h]

/-- `s` is a power of two not too far above `t`, and at most `R` steps remain to one above. -/
def Good (t s : EReal) (R : ℕ) : Prop := ∃ n, s = P n ∧ n + R ≤ 253 ∧ (n = 0 ∨ P (n - 1) ≤ t) ∧ (t < P (n + R) ∨ n + R = 253)

section
variable {F : FTy → Type} [FloatOps F]

/-- One comparison of the search. -/
def step (c d : BitVec 32) (t s : F .f32) : F .f32 :=
  Scalar.select (Scalar.cmpf .oge t (Scalar.mulf s (Scalar.ofBits .f32 c))) (Scalar.mulf s (Scalar.ofBits .f32 d)) s

def search5 (t : F .f32) : F .f32 :=
  step 0x4F000000#32 0x4F800000#32 t (step 0x5E000000#32 0x5E800000#32 t (step 0x5F000000#32 0x5F800000#32 t (step 0x5F000000#32 0x5F800000#32 t (Scalar.ofBits .f32 0x00800000#32))))

def search9 (t s : F .f32) : F .f32 :=
  step 0x3F800000#32 0x40000000#32 t (step 0x40000000#32 0x40800000#32 t (step 0x41000000#32 0x41800000#32 t (step 0x43000000#32 0x43800000#32 t (step 0x47000000#32 0x47800000#32 t s))))
end

theorem step_eq (c d : BitVec 32) (t s : EReal) :
    (step (F := Ideal) c d t s : EReal) = Scalar.select (Ideal.cmp .oge t (s * Ideal.ofBits .f32 c)) (s * Ideal.ofBits .f32 d) s := rfl

theorem good_step {t s : EReal} {R : ℕ} (k : ℕ) (c d : BitVec 32) (hc : Ideal.ofBits .f32 c = (((2 : ℝ) ^ k : ℝ) : EReal))
    (hd : Ideal.ofBits .f32 d = (((2 : ℝ) ^ (k + 1) : ℝ) : EReal)) (hk : k ≤ R) (h : Good t s (R + (k + 1))) : Good t (step (F := Ideal) c d t s) R := by
  obtain ⟨n, rfl, h0, h1, h2⟩ := h
  rw [step_eq, sel_ge, hc, hd, P_mul, P_mul]
  by_cases h : P (n + k) ≤ t
  · rw [if_pos h]
    refine ⟨n + (k + 1), rfl, by omega, .inr h, ?_⟩
    rw [show n + (k + 1) + R = n + (R + (k + 1)) by omega]
    exact h2
  · rw [if_neg h]
    exact ⟨n, rfl, by omega, h1, .inl ((not_le.1 h).trans_le (P_le (by omega)))⟩

/-- The bits of a power of two. -/
theorem pow_bits (c : BitVec 32) (ex : ℕ) (hn : c.extractLsb' 31 1 = 0#1) (hf : (c.extractLsb' 0 23).toNat = 0) (he : (c.extractLsb' 23 8).toNat = ex) (h0 : ex ≠ 0)
    (h1 : ex ≠ 255) : Ideal.ofBits .f32 c = (((2 : ℝ) ^ ((ex : ℤ) - 127) : ℝ) : EReal) := by
  have hn' : (c.extractLsb' (8 + 23) 1 == 1#1) = false := by
    show (c.extractLsb' 31 1 == 1#1) = false
    rw [hn]; rfl
  show Ideal.ieee 8 23 c = _
  unfold Ideal.ieee
  dsimp only
  rw [hn', hf, he, if_neg (by simpa using h1), if_neg h0]
  congr 1
  rw [show ((2 ^ 23 + 0 : ℕ) : ℝ) = (2 : ℝ) ^ (23 : ℤ) by norm_num, if_neg (by simp), one_mul, ← zpow_add₀ (by norm_num)]
  congr 1
  norm_num

theorem nat_bits (c : BitVec 32) (k : ℕ) (hn : c.extractLsb' 31 1 = 0#1) (hf : (c.extractLsb' 0 23).toNat = 0) (he : (c.extractLsb' 23 8).toNat = 127 + k)
    (h1 : k < 128) : Ideal.ofBits .f32 c = (((2 : ℝ) ^ k : ℝ) : EReal) := by
  rw [pow_bits c (127 + k) hn hf he (by omega) (by omega), ← zpow_natCast]
  congr 2
  push_cast
  ring

theorem first : Ideal.ofBits .f32 0x00800000#32 = P 0 := pow_bits _ 1 (by decide) (by decide) (by decide) (by decide) (by decide)

theorem last : Ideal.ofBits .f32 0x7F000000#32 = P 253 := by
  rw [pow_bits _ 254 (by decide) (by decide) (by decide) (by decide) (by decide)]
  unfold P
  congr 2

theorem one : Ideal.ofBits .f32 0x3F800000#32 = 1 :=
  (nat_bits _ 0 (by decide) (by decide) (by decide) (by decide)).trans (by norm_num)

/-- The factor of a maximum. -/
abbrev cst : EReal := Ideal.ofBits .f32 0x3B124925#32

theorem cst_ne : cst ≠ 0 := by
  unfold cst
  simp [Ideal.ofBits, Ideal.ieee]
  done

theorem mul_cst (v : EReal) : v * cst = 0 ↔ v = 0 := by
  rw [mul_eq_zero, or_iff_left cst_ne]

end Scales

namespace Cert.ScalesIdeal.Gen

open Idealize.ShloMosaic Idealize.ShloMosaic.TcCoe Idealize.ShloMosaic.Tactic
open _root_.Scales

section
variable {F : FTy → Type} [FloatOps F]

theorem pay9_eq (v : F .f32) : k0_pay9 v = search5 (k0_pay8 v) := rfl
theorem pay10_eq (v : F .f32) : k0_pay10 v = Scalar.mulf (k0_pay9 v) (Scalar.ofBits .f32 0x47000000#32) := rfl
theorem pay2_eq (t s : F .f32) : k0_pay2 t s (Scalar.mulf s (Scalar.ofBits .f32 0x47000000#32)) =
    Scalar.select (Scalar.cmpf .oeq t (Scalar.ofBits .f32 0x00000000#32)) (Scalar.ofBits .f32 0x3F800000#32) (search9 t s) := rfl

theorem scaleOf_eq (v : F .f32) : scaleOf v =
    Scalar.select (Scalar.cmpf .oeq (k0_pay8 v) (Scalar.ofBits .f32 0x00000000#32)) (Scalar.ofBits .f32 0x3F800000#32) (search9 (k0_pay8 v) (search5 (k0_pay8 v))) := by
  unfold scaleOf
  rw [pay10_eq, pay2_eq, pay9_eq]
end

theorem search_good (t : EReal) : Good t (search9 (F := Ideal) t (search5 (F := Ideal) t)) 0 := by
  have g0 : Good t (Ideal.ofBits .f32 0x00800000#32) (189 + (63 + 1)) := ⟨0, first, by omega, .inl rfl, .inr rfl⟩
  have g1 := good_step (R := 189) 63 0x5F000000#32 0x5F800000#32 (nat_bits _ _ (by decide) (by decide) (by decide) (by decide)) (nat_bits _ _ (by decide) (by decide) (by decide) (by decide)) (by omega) g0
  have g2 := good_step (R := 125) 63 0x5F000000#32 0x5F800000#32 (nat_bits _ _ (by decide) (by decide) (by decide) (by decide)) (nat_bits _ _ (by decide) (by decide) (by decide) (by decide)) (by omega) g1
  have g3 := good_step (R := 63) 61 0x5E000000#32 0x5E800000#32 (nat_bits _ _ (by decide) (by decide) (by decide) (by decide)) (nat_bits _ _ (by decide) (by decide) (by decide) (by decide)) (by omega) g2
  have g4 := good_step (R := 31) 31 0x4F000000#32 0x4F800000#32 (nat_bits _ _ (by decide) (by decide) (by decide) (by decide)) (nat_bits _ _ (by decide) (by decide) (by decide) (by decide)) (by omega) g3
  have g5 := good_step (R := 15) 15 0x47000000#32 0x47800000#32 (nat_bits _ _ (by decide) (by decide) (by decide) (by decide)) (nat_bits _ _ (by decide) (by decide) (by decide) (by decide)) (by omega) g4
  have g6 := good_step (R := 7) 7 0x43000000#32 0x43800000#32 (nat_bits _ _ (by decide) (by decide) (by decide) (by decide)) (nat_bits _ _ (by decide) (by decide) (by decide) (by decide)) (by omega) g5
  have g7 := good_step (R := 3) 3 0x41000000#32 0x41800000#32 (nat_bits _ _ (by decide) (by decide) (by decide) (by decide)) (nat_bits _ _ (by decide) (by decide) (by decide) (by decide)) (by omega) g6
  have g8 := good_step (R := 1) 1 0x40000000#32 0x40800000#32 (nat_bits _ _ (by decide) (by decide) (by decide) (by decide)) (nat_bits _ _ (by decide) (by decide) (by decide) (by decide)) (by omega) g7
  have g9 := good_step (R := 0) 0 0x3F800000#32 0x40000000#32 (nat_bits _ _ (by decide) (by decide) (by decide) (by decide)) (nat_bits _ _ (by decide) (by decide) (by decide) (by decide)) (by omega) g8
  exact g9

theorem zero_bits : Ideal.ofBits .f32 0x00000000#32 = 0 := by simp [Ideal.ofBits, Ideal.ieee]

theorem scaleOf_sel (v : EReal) : (scaleOf (F := Ideal) v : EReal) = if v * cst = 0 then 1 else search9 (F := Ideal) (v * cst) (search5 (F := Ideal) (v * cst)) := by
  rw [scaleOf_eq]
  refine Eq.trans (sel_eq _ _ _ _) ?_
  show (if v * cst = Ideal.ofBits .f32 0x00000000#32 then Ideal.ofBits .f32 0x3F800000#32 else search9 (F := Ideal) (v * cst) (search5 (F := Ideal) (v * cst))) = _
  rw [zero_bits, one]

/-- The kernel's scale of a maximum: one for zero, else the smallest power of two above its share. -/
theorem scaleOf_spec (v : EReal) : ∃ n, n ≤ 253 ∧ (n = 0 ∨ P (n - 1) ≤ v * cst) ∧ (v * cst < P n ∨ n = 253) ∧
    (scaleOf (F := Ideal) v : EReal) = if v = 0 then 1 else P n := by
  obtain ⟨n, e, h0, h1, h2⟩ := search_good (v * cst)
  refine ⟨n, h0, h1, h2, ?_⟩
  rw [scaleOf_sel, e]
  exact if_congr (mul_cst v) rfl rfl

end Cert.ScalesIdeal.Gen

end
-- ==== Proof.ScaleRef.lean ====
/- The reference's two results: the scales of its two maxima, each maximum told by the bounds that hold of it. -/
module

public import proofs.«01_k».proof.Proof.ScalePow
public import proofs.«01_k».proof.Proof.Gen.ScalesReferenceIdeal.Frame

@[expose] public section

set_option maxRecDepth 16384

noncomputable section

namespace Cert.ScalesReferenceIdeal.Gen

open Idealize.ShloMosaic Idealize.ShloMosaic.TcCoe Idealize.ShloMosaic.Tactic
open _root_.Scales

section
variable {F : FTy → Type} [FloatOps F]

/-- The largest magnitude, and that of the last two frames. -/
def bigAll (v0 : Vec F S3x8x180x128x192 .bf16) : F .f32 :=
  extractAt ![0, 0, 0, 0, 0, 0] (shapeCast S1x1x1x1x1x1 (multiReduction .maximumf [1, 2, 3, 4, 5] S1
    (shapeCast S1x3x8x180x128x192 (k0_pay1 v0) shapeCasts_S3x8x180x128x192_S1x3x8x180x128x192) 0xFF800000#32 reduces_S1x3x8x180x128x192_S1 (.inl rfl) rfl)
    shapeCasts_S1_S1x1x1x1x1x1) inpos_S1x1x1x1x1x1_p0_0_0_0_0_0

def bigTail (v2 : FVec F S3x8x180x128x192 .f32) : F .f32 :=
  extractAt ![0, 0, 0, 0, 0, 0] (shapeCast S1x1x1x1x1x1 (multiReduction .maximumf [1, 2, 3, 4, 5] S1
    (shapeCast S1x3x2x180x128x192 (extractStridedSlice S3x2x180x128x192 ![0, 6, 0, 0, 0] v2 slices_S3x8x180x128x192_o0_6_0_0_0_S3x2x180x128x192)
      shapeCasts_S3x2x180x128x192_S1x3x2x180x128x192) 0xFF800000#32 reduces_S1x3x2x180x128x192_S1 (.inl rfl) rfl)
    shapeCasts_S1_S1x1x1x1x1x1) inpos_S1x1x1x1x1x1_p0_0_0_0_0_0

/-- The smallest power of two above a value, among the normal ones. -/
def above (t : F .f32) : F .f32 :=
  extractAt ![0, 0, 0] (shapeCast S1x1x1 (multiReduction .minimumf [1, 2] S1 (shapeCast S1x1x254
    (select (cmpf .ogt (k0_pay2 (F := F)) (broadcast S1x254 t)) (k0_pay2 (F := F)) (broadcast S1x254 (Scalar.ofBits .f32 0x7F000000#32 : F .f32)))
    shapeCasts_S1x254_S1x1x254) 0x7F800000#32 reduces_S1x1x254_S1 (.inl rfl) rfl) shapeCasts_S1_S1x1x1) inpos_S1x1x1_p0_0_0

/-- The scale of a maximum. -/
def scale (v : F .f32) : F .f32 :=
  Scalar.select (Scalar.cmpf .oeq v (Scalar.ofBits .f32 0x00000000#32)) (Scalar.ofBits .f32 0x3F800000#32) (above (Scalar.mulf v (Scalar.ofBits .f32 0x3B124925#32)))

theorem all_eq (v0 : Vec F S3x8x180x128x192 .bf16) : k0_pay3 v0 = scale (bigAll v0) := rfl

theorem tail_eq (v0 : Vec F S3x8x180x128x192 .bf16) : k0_pay4 v0 = scale (bigTail (k0_pay1 v0)) := rfl
end

theorem power_word : ∀ n : Fin 254, (BitVec.ofNat 32 n.val - 126#32).toInt = (n.val : ℤ) - 126 := by decide +kernel

/-- The powers of two. -/
theorem powers_apply (z : S1x254.Idx) : (k0_pay2 (F := Ideal) z : EReal) = P (z 1).val := by
  have e : (k0_pay2 (F := Ideal) z : EReal) = Ideal.exp2 ((((BitVec.ofNat 32 (0 * 254 + (z 1).val) - 126#32).toInt : ℝ) : EReal)) := rfl
  rw [e, Nat.zero_mul, Nat.zero_add, power_word (z 1)]
  show ((Real.rpow 2 _ : ℝ) : EReal) = _
  unfold P
  congr 1
  exact Real.rpow_intCast 2 _

theorem le_red {φ : FTy} {s t : Shape} {axes : List (Fin s.rank)} (src : FVec Ideal s φ) (acc : BitVec φ.bits) (h : s.Reduces axes t)
    (hφ : FKind.Formats φ) (hacc : acc = FKind.minimumf.neutral φ hφ) (hb : (FloatOps.ofBits φ acc : Ideal φ) = (⊤ : EReal)) (j : t.Idx) (b : EReal) :
    b ≤ (multiReduction .minimumf axes t src acc h hφ hacc j : EReal) ↔ ∀ i, h.drop i = j → b ≤ (src i : EReal) := by
  rw [multiReduction_minimumf_eq_fold, hb]
  have e := Finset.le_fold_min (s := Finset.univ.filter fun i => h.drop i = j) (f := fun i => (src i : EReal)) (b := (⊤ : EReal)) b
  refine Iff.trans e ?_
  simp

theorem pinf32 : (FloatOps.ofBits .f32 0x7F800000#32 : Ideal .f32) = (⊤ : EReal) := by
  show Ideal.ofBits .f32 0x7F800000#32 = ⊤
  simp [Ideal.ofBits, Ideal.ieee]

theorem pick_apply (t : EReal) (z : S1x254.Idx) :
    (select (cmpf .ogt (k0_pay2 (F := Ideal)) (broadcast S1x254 (t : Ideal .f32))) (k0_pay2 (F := Ideal)) (broadcast S1x254 (Scalar.ofBits .f32 0x7F000000#32 : Ideal .f32)) z : Ideal .f32)
      = if t < P (z 1).val then P (z 1).val else P 253 := by
  refine Eq.trans (sel_gt _ _ _ _) ?_
  show (if t < (k0_pay2 (F := Ideal) z : EReal) then (k0_pay2 (F := Ideal) z : EReal) else Ideal.ofBits .f32 0x7F000000#32) = _
  rw [powers_apply, last]

theorem le_above (t b : EReal) : b ≤ (above (F := Ideal) t : EReal) ↔ ∀ n : Fin 254, b ≤ if t < P n.val then P n.val else P 253 := by
  unfold above
  rw [extractAt_eq, Pointwise.shapeCast_apply]
  refine (le_red _ _ _ _ _ pinf32 _ b).trans ⟨fun h n => ?_, fun h i _ => ?_⟩
  · have := h ((Shape.reshapeEquiv shapeCasts_S1x254_S1x1x254).symm (ix2 0 n)) (one_idx _ _)
    rw [Pointwise.shapeCast_apply, Equiv.apply_symm_apply] at this
    exact this.trans (pick_apply t (ix2 0 n)).le
  · rw [Pointwise.shapeCast_apply]
    exact (h (Shape.reshapeEquiv shapeCasts_S1x254_S1x1x254 i 1)).trans (pick_apply t _).symm.le

/-- What the kernel's search ends at is the reference's smallest power of two. -/
theorem above_eq (t : EReal) (n : ℕ) (hn : n ≤ 253) (h1 : n = 0 ∨ P (n - 1) ≤ t) (h2 : t < P n ∨ n = 253) : (above (F := Ideal) t : EReal) = P n := by
  refine le_antisymm (((le_above t _).1 le_rfl ⟨n, by omega⟩).trans ?_) ((le_above t _).2 fun k => ?_)
  · show (if t < P n then P n else P 253) ≤ P n
    rcases h2 with h2 | h2
    · rw [if_pos h2]
    · subst h2; split <;> exact le_rfl
  · split
    · rename_i hk
      rcases h1 with h1 | h1
      · exact P_le (by omega)
      · have := P_lt (h1.trans_lt hk)
        exact P_le (by omega)
    · exact P_le hn

theorem scale_eq (v : EReal) : (scale (F := Ideal) v : EReal) = Cert.ScalesIdeal.Gen.scaleOf (F := Ideal) v := by
  obtain ⟨n, hn, h1, h2, e⟩ := Cert.ScalesIdeal.Gen.scaleOf_spec v
  rw [e]
  refine Eq.trans (sel_eq _ _ _ _) ?_
  show (if v = Ideal.ofBits .f32 0x00000000#32 then Ideal.ofBits .f32 0x3F800000#32 else (above (F := Ideal) (v * cst) : EReal)) = _
  rw [Cert.ScalesIdeal.Gen.zero_bits, one, above_eq _ n hn h1 h2]

theorem all_le (v : Vec Ideal S3x8x180x128x192 .bf16) (b : EReal) : (bigAll v : EReal) ≤ b ↔ ∀ z, mag (v z) ≤ b := by
  unfold bigAll
  rw [extractAt_eq, Pointwise.shapeCast_apply]
  refine (red_le _ _ _ _ _ ninf32 _ b).trans ⟨fun h z => ?_, fun h i _ => ?_⟩
  · have := h ((Shape.reshapeEquiv shapeCasts_S3x8x180x128x192_S1x3x8x180x128x192).symm z) (one_idx _ _)
    rw [Pointwise.shapeCast_apply] at this
    refine le_trans (le_of_eq ?_) this
    exact congrArg (fun z => mag (v z)) (Equiv.apply_symm_apply _ z).symm
  · rw [Pointwise.shapeCast_apply]
    exact h _

theorem tail_le (v : Vec Ideal S3x8x180x128x192 .bf16) (b : EReal) :
    (bigTail (k0_pay1 v) : EReal) ≤ b ↔ ∀ (i : Fin 3) (f : Fin 2) (r : Fin 180) (p : Fin 128) (d : Fin 192), mag (v (ix5 i ⟨6 + f.val, by omega⟩ r p d)) ≤ b := by
  have ev : ∀ (i : Fin 3) (f : Fin 2) (r : Fin 180) (p : Fin 128) (d : Fin 192), (extractStridedSlice S3x2x180x128x192 ![0, 6, 0, 0, 0] (k0_pay1 v)
      slices_S3x8x180x128x192_o0_6_0_0_0_S3x2x180x128x192 (ix5 i f r p d) : Ideal .f32) = mag (v (ix5 i ⟨6 + f.val, by omega⟩ r p d)) := fun i f r p d => by
    unfold mag k0_pay1
    pointwise []
    rfl
  have e5 : ∀ z : S3x2x180x128x192.Idx, z = ix5 (z 0) (z 1) (z 2) (z 3) (z 4) := fun z => funext fun a => match a with
    | 0 => rfl
    | 1 => rfl
    | 2 => rfl
    | 3 => rfl
    | 4 => rfl
  unfold bigTail
  rw [extractAt_eq, Pointwise.shapeCast_apply]
  refine (red_le _ _ _ _ _ ninf32 _ b).trans ⟨fun h i f r p d => ?_, fun h j _ => ?_⟩
  · have := h ((Shape.reshapeEquiv shapeCasts_S3x2x180x128x192_S1x3x2x180x128x192).symm (ix5 i f r p d)) (one_idx _ _)
    rw [Pointwise.shapeCast_apply, Equiv.apply_symm_apply] at this
    exact (ev i f r p d).symm.le.trans this
  · rw [Pointwise.shapeCast_apply, e5 (Shape.reshapeEquiv _ _)]
    exact (ev _ _ _ _ _).le.trans (h _ _ _ _ _)

theorem zeros5 : (![0, 0, 0, 0, 0] : Fin 5 → Nat) = fun _ => 0 := by decide

section Out
variable (c : Dev nD) (arg0 : Memref sig .tc .vmem S3x8x180x128x192 .bf16) (harg0 : arg0.IsWhole) (arg1 : Memref sig .tc .smem S1 .f32) (harg1 : arg1.IsWhole) (arg2 : Memref sig .tc .smem S1 .f32) (harg2 : arg2.IsWhole)
  (x0 : Vec Ideal S3x8x180x128x192 .bf16)

theorem out1_apply (i : S1.Idx) : out0_A_1 (F := Ideal) c arg0 harg0 arg1 harg1 arg2 harg2 x0 i = Cert.ScalesIdeal.Gen.scaleOf (bigAll x0) := by
  unfold out0_A_1
  unfold kernelRun0_A
  dsimp only
  sl_unfold_words
  rw [View.read_writes_full]
  simp only [View.readAt_eq_ld, Memref.IsWhole.read_unread, View.ld_unit_zero (S := S3x8x180x128x192) zeros5]
  exact (all_eq x0).trans (scale_eq _)

theorem out2_apply (i : S1.Idx) : out0_A_2 (F := Ideal) c arg0 harg0 arg1 harg1 arg2 harg2 x0 i = Cert.ScalesIdeal.Gen.scaleOf (bigTail (k0_pay1 x0)) := by
  unfold out0_A_2
  unfold kernelRun0_A
  dsimp only
  sl_unfold_words
  rw [View.read_writes_full]
  simp only [View.readAt_eq_ld, Memref.IsWhole.read_unread, View.ld_unit_zero (S := S3x8x180x128x192) zeros5]
  exact (tail_eq x0).trans (scale_eq _)

end Out

variable (m : (ℓ : Loc nD τ sig) → Buf (Elt Ideal) ℓ) (c : Dev nD)

abbrev argX : Vec Ideal S3x8x180x128x192 .bf16 := m ((c : Thread nD τ).loc main_arg0)

theorem embX (t : Fin cfg0.N) (z : S3x8x180x128x192.Idx) : ((cfg0.win 0).blk t).view.emb z = z := by
  funext a; apply Fin.ext
  match a with
  | ⟨0, _⟩ => show 0 * 3 + 1 * (z 0).val = (z 0).val; omega
  | ⟨1, _⟩ => show 0 * 8 + 1 * (z 1).val = (z 1).val; omega
  | ⟨2, _⟩ => show 0 * 180 + 1 * (z 2).val = (z 2).val; omega
  | ⟨3, _⟩ => show 0 * 128 + 1 * (z 3).val = (z 3).val; omega
  | ⟨4, _⟩ => show 0 * 192 + 1 * (z 4).val = (z 4).val; omega

theorem blkX (t : Fin cfg0.N) : (iblk m c 0 t : Vec Ideal S3x8x180x128x192 .bf16) = argX m c := by
  funext z
  show V m c main_arg0 (((cfg0.win 0).blk t).view.emb z) = _
  rw [embX, V_main_arg0]

theorem covers1 : (cfg0.win 1).Covers := by decide +kernel
theorem covers2 : (cfg0.win 2).Covers := by decide +kernel

theorem xs_array (i : S1.Idx) : ((dats m 0 c).arrAt 1 cfg0.N : Vec Ideal S1 .f32) i = Cert.ScalesIdeal.Gen.scaleOf (bigAll (argX m c)) := by
  refine (dats m 0 c).arrAt_forall_of_covers 1 (fun (i : S1.Idx) v => v = Cert.ScalesIdeal.Gen.scaleOf (bigAll (argX m c))) covers1 (fun t hf y => ?_) i (Memref.isWhole_whole _)
  rw [after0_1]
  refine (out1_apply c (ms0_0 t) (hs0_0 t) (ms0_1 t) (hs0_1 t) (ms0_2 t) (hs0_2 t) (iblk m c 0 t) _).trans ?_
  rw [blkX]

theorem ncs_array (i : S1.Idx) : ((dats m 0 c).arrAt 2 cfg0.N : Vec Ideal S1 .f32) i = Cert.ScalesIdeal.Gen.scaleOf (bigTail (k0_pay1 (argX m c))) := by
  refine (dats m 0 c).arrAt_forall_of_covers 2 (fun (i : S1.Idx) v => v = Cert.ScalesIdeal.Gen.scaleOf (bigTail (k0_pay1 (argX m c)))) covers2 (fun t hf y => ?_) i (Memref.isWhole_whole _)
  rw [after0_2]
  refine (out2_apply c (ms0_0 t) (hs0_0 t) (ms0_1 t) (hs0_1 t) (ms0_2 t) (hs0_2 t) (iblk m c 0 t) _).trans ?_
  rw [blkX]

end Cert.ScalesReferenceIdeal.Gen
-- ==== Proof.ScaleEq.lean ====
/- The kernel's two maxima are the reference's. -/
module

public import proofs.«01_k».proof.Proof.ScaleRef

@[expose] public section

set_option maxRecDepth 16384

noncomputable section

namespace Cert.ScalesIdeal.Gen

open Idealize.ShloMosaic Idealize.ShloMosaic.TcCoe Idealize.ShloMosaic.Tactic
open _root_.Scales
open Cert.ScalesReferenceIdeal.Gen (bigAll bigTail all_le tail_le)

variable (m : (ℓ : Loc nD τ sig) → Buf (Elt Ideal) ℓ) (c : Dev nD)

theorem idx5 {a b c d e : ℕ} (z : (⟨5, ![a, b, c, d, e]⟩ : Shape).Idx) : z = ix5 (z 0) (z 1) (z 2) (z 3) (z 4) := funext fun q => match q with
  | 0 => rfl
  | 1 => rfl
  | 2 => rfl
  | 3 => rfl
  | 4 => rfl

/-- The maximum over all the frames. -/
theorem all_eq : (Scalar.maximumf (k0_pay3 (slab 0 (by omega) (scr m c 71 n71))) (k0_pay3 (slab 1 (by omega) (scr m c 71 n71))) : Ideal .f32) = bigAll (argX m c) := by
  refine eq_of_forall_ge_iff (α := EReal) fun b => ?_
  show max (k0_pay3 (slab 0 _ (scr m c 71 n71)) : EReal) (k0_pay3 (slab 1 _ (scr m c 71 n71))) ≤ b ↔ _
  rw [max_le_iff, scrMax_le, scrMax_le]
  refine Iff.trans ⟨fun h z => ?_, fun h => ?_⟩ (all_le (argX m c) b).symm
  · rw [idx5 z]
    have hf : (z 1).val < 8 := (z 1).isLt
    rcases Nat.lt_or_ge (z 1).val 6 with h' | h'
    · exact h.1.2 (z 0) (z 1) (by omega) (z 2) (z 3) (z 4)
    · exact h.2.2 (z 0) (z 1) (by omega) (z 2) (z 3) (z 4)
  · have h0 : 0 ≤ b := (mag_nonneg _).trans (h (ix5 0 0 0 0 0))
    exact ⟨⟨h0, fun i f _ r p d => h _⟩, ⟨h0, fun i f _ r p d => h _⟩⟩

/-- The maximum over the last two frames. -/
theorem tail_eq : (k0_pay3 (slab 1 (by omega) (scr m c 71 n71)) : Ideal .f32) = bigTail (Cert.ScalesReferenceIdeal.Gen.k0_pay1 (argX m c)) := by
  refine eq_of_forall_ge_iff (α := EReal) fun b => ?_
  rw [scrMax_le]
  refine Iff.trans ⟨fun h i f r p d => ?_, fun h => ⟨?_, fun i f hf r p d => ?_⟩⟩ (tail_le (argX m c) b).symm
  · exact h.2 i ⟨6 + f.val, by omega⟩ (by show (6 + f.val) / 6 = 1; omega) r p d
  · exact (mag_nonneg _).trans (h 0 0 0 0 0)
  · have := h i ⟨f.val - 6, by omega⟩ r p d
    refine le_trans (le_of_eq (congrArg (fun f => mag (argX m c (ix5 i f r p d))) (Fin.ext ?_))) this
    show f.val = 6 + (f.val - 6)
    omega

theorem last (t : Fin cfg0.N) (h : t.val % 72 = 71) : t.val = 71 := by have := lt72 t; omega

theorem xsAt_apply (n : ℕ) (hn : n < cfg0.N) (i : S1.Idx) :
    xsAt m c n hn i = scaleOf (Scalar.maximumf (k0_pay3 (slab 0 (by omega) (scr m c n hn))) (k0_pay3 (slab 1 (by omega) (scr m c n hn)))) := xsOf_eq _ _

theorem ncsAt_apply (n : ℕ) (hn : n < cfg0.N) (i : S1.Idx) : ncsAt m c n hn i = scaleOf (k0_pay3 (slab 1 (by omega) (scr m c n hn))) := ncsOf_eq _

theorem xsAt_last (n : ℕ) (hn : n < cfg0.N) (h : n = 71) (i : S1.Idx) : xsAt m c n hn i = scaleOf (bigAll (argX m c)) := by
  subst h
  rw [xsAt_apply, all_eq]

theorem ncsAt_last (n : ℕ) (hn : n < cfg0.N) (h : n = 71) (i : S1.Idx) : ncsAt m c n hn i = scaleOf (bigTail (Cert.ScalesReferenceIdeal.Gen.k0_pay1 (argX m c))) := by
  subst h
  rw [ncsAt_apply, tail_eq]

end Cert.ScalesIdeal.Gen

end
-- ==== Proof.ScaleValue.lean ====
/- The two scales after the run: the kernel's are the reference's. -/
module

public import proofs.«01_k».proof.Proof.ScaleEq

@[expose] public section

set_option maxRecDepth 16384

noncomputable section

namespace Cert.ScalesIdeal.Gen

open Idealize.ShloMosaic Idealize.ShloMosaic.TcCoe Idealize.ShloMosaic.Tactic
open _root_.Scales
open Cert.ScalesReferenceIdeal.Gen (bigAll bigTail)

variable (m : (ℓ : Loc nD τ sig) → Buf (Elt Ideal) ℓ) (c : Dev nD)

theorem covers1 : (cfg0.win 1).Covers := by decide +kernel
theorem covers2 : (cfg0.win 2).Covers := by decide +kernel

theorem xs_array (i : S1.Idx) : ((dats m 0 c).arrAt 1 cfg0.N : Vec Ideal S1 .f32) i = scaleOf (bigAll (argX m c)) := by
  refine (dats m 0 c).arrAt_forall_of_covers 1 (fun (i : S1.Idx) v => v = scaleOf (bigAll (argX m c))) covers1 (fun t hf y => ?_) i (Memref.isWhole_whole _)
  rw [after0_1]
  refine (cast_eq _ _).trans ?_
  exact xsAt_last m c t.val t.isLt (last t ((flush0_1 t).1 hf)) ((cfg0.win 1).xinj (cfg0.grid.coords t) y)

theorem ncs_array (i : S1.Idx) : ((dats m 0 c).arrAt 2 cfg0.N : Vec Ideal S1 .f32) i = scaleOf (bigTail (Cert.ScalesReferenceIdeal.Gen.k0_pay1 (argX m c))) := by
  refine (dats m 0 c).arrAt_forall_of_covers 2 (fun (i : S1.Idx) v => v = scaleOf (bigTail (Cert.ScalesReferenceIdeal.Gen.k0_pay1 (argX m c)))) covers2 (fun t hf y => ?_) i (Memref.isWhole_whole _)
  rw [after0_2]
  refine (cast_eq _ _).trans ?_
  exact ncsAt_last m c t.val t.isLt (last t ((flush0_2 t).1 hf)) ((cfg0.win 2).xinj (cfg0.grid.coords t) y)

/-- The run, its two arrays named. -/
theorem run_arrays (ρ : Dev nD → PrngReg) : θ_run defs (onTc (τ := τ) (main (F := Ideal))) ⟨m, fun _ => 0, ρ⟩ (fun r => ∀ c : Dev nD,
      r.2.mem ((c : Thread nD τ).loc main_v2_0) = (fun _ => scaleOf (bigAll (argX m c)) : Vec Ideal S1 .f32)
      ∧ r.2.mem ((c : Thread nD τ).loc main_v2_1) = (fun _ => scaleOf (bigTail (Cert.ScalesReferenceIdeal.Gen.k0_pay1 (argX m c))) : Vec Ideal S1 .f32)
      ∧ r.2.mem ((c : Thread nD τ).loc main_arg0) = m ((c : Thread nD τ).loc main_arg0)) :=
  (θ_run defs _ _).mono (fun r h c => ⟨((h c).1 1).trans (funext fun i => xs_array m c i), ((h c).1 2).trans (funext fun i => ncs_array m c i),
    ((h c).2 main_arg0 (Pipeline.mem_restRefs_of main_arg0 (by decide) (by decide))).trans (V_main_arg0 m c)⟩) (run_main m ρ)

end Cert.ScalesIdeal.Gen

namespace Cert.ScalesReferenceIdeal.Gen

open Idealize.ShloMosaic Idealize.ShloMosaic.TcCoe Idealize.ShloMosaic.Tactic

variable (m : (ℓ : Loc nD τ sig) → Buf (Elt Ideal) ℓ)

/-- The reference's run, its two arrays named. -/
theorem run_arrays (ρ : Dev nD → PrngReg) : θ_run defs (onTc (τ := τ) (main (F := Ideal))) ⟨m, fun _ => 0, ρ⟩ (fun r => ∀ c : Dev nD,
      r.2.mem ((c : Thread nD τ).loc main_v0_0) = (fun _ => Cert.ScalesIdeal.Gen.scaleOf (bigAll (argX m c)) : Vec Ideal S1 .f32)
      ∧ r.2.mem ((c : Thread nD τ).loc main_v0_1) = (fun _ => Cert.ScalesIdeal.Gen.scaleOf (bigTail (k0_pay1 (argX m c))) : Vec Ideal S1 .f32)
      ∧ r.2.mem ((c : Thread nD τ).loc main_arg0) = m ((c : Thread nD τ).loc main_arg0)) :=
  (θ_run defs _ _).mono (fun r h c => ⟨((h c).1 1).trans (funext fun i => xs_array m c i), ((h c).1 2).trans (funext fun i => ncs_array m c i),
    ((h c).1 0).trans (((dats m 0 c).arrAt_in 0 rfl _).trans ((A_eq m c 0).trans (V_main_arg0 m c)))⟩) (run_main m ρ)

end Cert.ScalesReferenceIdeal.Gen

end
-- ==== Proof.BitScaleRun.lean ====
module

public import proofs.«01_k».proof.Proof.Gen.Scales.Frame
public import proofs.«01_k».proof.Proof.Gen.Scales.Skeleton
public import proofs.«01_k».proof.Proof.Gen.Scales.Loops

@[expose] public section

set_option maxRecDepth 16384

noncomputable section

namespace Cert.Scales.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the first point. -/
abbrev cond1 (i : grid0.Coords) : Prop :=
  Scalar.cmpi .ne ((Scalar.extui (Scalar.cmpi .eq (BitVec.ofNat 32 (i 0).val) 0#32) : BitVec 32)) 0#32 = 1#1

set_option maxHeartbeats 4000000 in
noncomputable def runB (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : ¬ cond1 i) (h2 : ¬ k0_cond2 i = 1#1) (x : Vec F S1x60x192x128 .bf16) (xs : Vec F S2x64x128 .bf16) :
    { LS : List (View.Piece (Elt F) S2x64x128 .bf16) //
      ∀ (E : Set ℕ) (K : PUnit → sProp 𝕄),
        iprop(owns (c : Thread nD τ) arg1 fullShare x ∗ owns (c : Thread nD τ) arg4 fullShare xs
            ∗ (iprop(owns (c : Thread nD τ) arg1 fullShare x ∗ (arg4.view.loc (c : Thread nD τ) ↦[arg4.view.set]{fullShare} arg4.view.writes (Elt F) (harg4.unread xs) LS)) -∗ K ⟨⟩))
          ⊢ wp frame (wpE (defs₀ (F := F)) Variants.none c none) E (cc0_amax i arg1 harg1 arg2 harg2 arg3 harg3 arg4 harg4) K } := by
  refine ⟨?_, fun E K => ?run⟩
  case run =>
    simp only [cc0_amax_eq_skeleton]; unfold cc0_amax_skel
    simp only [k0_part1_eq_skeleton, k0_part2_eq_skeleton, k0_part3_eq_skeleton]; unfold k0_part3_skel; rw [dif_neg h1]; simp only [bind_assoc, pure_bind]
    unfold owns
    iintro ⟨⟨%f0, %hf0, H0⟩, ⟨%fs0, %hfs0, HS0⟩, Hk⟩
    obtain rfl := harg1.eq_unread hf0; obtain rfl := harg4.eq_unread hfs0
    sl_exec (disch := first | sl_exact h1 | sl_exact h2)
    sl_step
    iapply Hk
    isplitl [H0]
    · iexists _; isplitr; · ipureintro; exact harg1.read_unread _
      iexact H0
    iexact HS0

set_option maxHeartbeats 4000000 in
noncomputable def runA (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : cond1 i) (ho : k0_off2 i = ![0, 0, 0]) (h2 : ¬ k0_cond2 i = 1#1) (x : Vec F S1x60x192x128 .bf16)  :
    { LS : List (View.Piece (Elt F) S2x64x128 .bf16) //
      ∀ (E : Set ℕ) (K : PUnit → sProp 𝕄),
        iprop(owns (c : Thread nD τ) arg1 fullShare x ∗ (∃ d, owns (c : Thread nD τ) arg4 fullShare d)
            ∗ (iprop(owns (c : Thread nD τ) arg1 fullShare x ∗ (∃ f, arg4.view.loc (c : Thread nD τ) ↦[arg4.view.set]{fullShare} arg4.view.writes (Elt F) f LS)) -∗ K ⟨⟩))
          ⊢ wp frame (wpE (defs₀ (F := F)) Variants.none c none) E (cc0_amax i arg1 harg1 arg2 harg2 arg3 harg3 arg4 harg4) K } := by
  refine ⟨?_, fun E K => ?run⟩
  case run =>
    simp only [cc0_amax_eq_skeleton]; unfold cc0_amax_skel
    simp only [k0_part1_eq_skeleton, k0_part2_eq_skeleton, k0_part3_eq_skeleton]; unfold k0_part3_skel; rw [dif_pos h1]; simp only [bind_assoc, pure_bind]
    letI : ClosedOff (k0_off2 i) := ⟨![0, 0, 0], ho⟩
    unfold owns
    iintro ⟨⟨%f0, %hf0, H0⟩, ⟨%ds0, %fs0, -, HS0⟩, Hk⟩
    obtain rfl := harg1.eq_unread hf0
    sl_exec (disch := first | sl_exact h1 | sl_exact h2)
    sl_step
    iapply Hk
    isplitl [H0]
    · iexists _; isplitr; · ipureintro; exact harg1.read_unread _
      iexact H0
    iexists _; iexact HS0

set_option maxHeartbeats 4000000 in
noncomputable def runC (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
    (h1 : ¬ cond1 i) (ho : k0_off2 i = ![1, 0, 0]) (h2 : k0_cond2 i = 1#1) (x : Vec F S1x60x192x128 .bf16) (xs : Vec F S2x64x128 .bf16) :
    Σ' (L2 L3 : List (View.Piece (Elt F) S1 .f32)), { LS : List (View.Piece (Elt F) S2x64x128 .bf16) //
      ∀ (E : Set ℕ) (K : PUnit → sProp 𝕄),
        iprop(owns (c : Thread nD τ) arg1 fullShare x ∗ owns (c : Thread nD τ) arg4 fullShare xs ∗ (∃ d, owns (c : Thread nD τ) arg2 fullShare d) ∗ (∃ d, owns (c : Thread nD τ) arg3 fullShare d)
            ∗ (iprop(owns (c : Thread nD τ) arg1 fullShare x ∗ (arg4.view.loc (c : Thread nD τ) ↦[arg4.view.set]{fullShare} arg4.view.writes (Elt F) (harg4.unread xs) LS) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)) -∗ K ⟨⟩))
          ⊢ wp frame (wpE (defs₀ (F := F)) Variants.none c none) E (cc0_amax i arg1 harg1 arg2 harg2 arg3 harg3 arg4 harg4) K } := by
  refine ⟨?_, ?_, ?_, fun E K => ?run⟩
  case run =>
    simp only [cc0_amax_eq_skeleton]; unfold cc0_amax_skel
    simp only [k0_part1_eq_skeleton, k0_part2_eq_skeleton, k0_part3_eq_skeleton]; unfold k0_part3_skel; rw [dif_neg h1]; simp only [bind_assoc, pure_bind]
    letI : ClosedOff (k0_off2 i) := ⟨![1, 0, 0], ho⟩
    unfold owns
    iintro ⟨⟨%f0, %hf0, H0⟩, ⟨%fs0, %hfs0, HS0⟩, ⟨%d2, %f2, -, H2⟩, ⟨%d3, %f3, -, H3⟩, Hk⟩
    obtain rfl := harg1.eq_unread hf0; obtain rfl := harg4.eq_unread hfs0
    sl_exec (disch := first | sl_exact h1 | sl_exact h2)
    sl_step
    iapply Hk
    isplitl [H0]
    · iexists _; isplitr; · ipureintro; exact harg1.read_unread _
      iexact H0
    isplitl [HS0]; · iexact HS0
    isplitl [H2]; · iexists _; iexact H2
    iexists _; iexact H3

theorem coord0 : ∀ t : Fin cfg0.N, (grid0.coords t 0).val = t.val := (by decide +kernel : ∀ t : Fin grid0.N, (grid0.coords t 0).val = t.val)
theorem hcond1 : ∀ t : Fin cfg0.N, cond1 (grid0.coords t) ↔ t.val = 0 := (by decide +kernel : ∀ t : Fin grid0.N, cond1 (grid0.coords t) ↔ t.val = 0)
theorem hcond2 : ∀ t : Fin cfg0.N, k0_cond2 (grid0.coords t) = 1#1 ↔ t.val = 71 := (by decide +kernel : ∀ t : Fin grid0.N, k0_cond2 (grid0.coords t) = 1#1 ↔ t.val = 71)
/-- The slab of the scratch that point `t` accumulates into: 1 at the last two of each eight frames. -/
theorem off2_eq : ∀ t : Fin cfg0.N, k0_off2 (grid0.coords t) = ![t.val / 3 % 8 / 6, 0, 0] := (by decide +kernel : ∀ t : Fin grid0.N, k0_off2 (grid0.coords t) = ![t.val / 3 % 8 / 6, 0, 0])

end Cert.Scales.Gen

end
-- ==== Proof.BitScaleState.lean ====
/- What a point of the scales' call leaves in the scratch, as plain functions of the point's block. -/
module

public import proofs.«01_k».proof.Proof.BitScaleRun
public import Idealize.ShloMosaic.Lib.VecWindow

@[expose] public section

set_option maxRecDepth 16384

noncomputable section

namespace Cert.Scales.Gen

open Idealize.ShloMosaic Idealize.ShloMosaic.TcCoe Idealize.ShloMosaic.Tactic

variable {F : FTy → Type} [FloatOps F]

/-! ## The largest magnitudes of a block -/

theorem inb_row (k : ℕ) (hk : k < 60) : ∀ a, (![0, k, 0, 0] : Fin 4 → ℕ) a + (![1, 1, 192, 128] : Fin 4 → ℕ) a ≤ S1x60x192x128.size a := fun a =>
  match a with
  | 0 => by show 0 + 1 ≤ 1; omega
  | 1 => by show k + 1 ≤ 60; omega
  | 2 => by show 0 + 192 ≤ 192; omega
  | 3 => by show 0 + 128 ≤ 128; omega

/-- The maximum after `n` rows of a block. -/
def rows (x : Vec F S1x60x192x128 .bf16) : ℕ → FVec F S64x128 .bf16
  | 0 => k0_pay12
  | n + 1 => if h : n < 60 then k0_pay13 (rows x n) (VecWindow.window x ![0, n, 0, 0] ![1, 1, 192, 128] (inb_row n h)) else rows x n

variable (c : Dev nD) (i : grid0.Coords) (arg1 : Memref sig .tc .vmem S1x60x192x128 .bf16) (harg1 : arg1.IsWhole) (arg2 : Memref sig .tc .smem S1 .f32) (harg2 : arg2.IsWhole) (arg3 : Memref sig .tc .smem S1 .f32) (harg3 : arg3.IsWhole) (arg4 : Memref sig .tc .vmem S2x64x128 .bf16) (harg4 : arg4.IsWhole)
  (x : Vec F S1x60x192x128 .bf16) (xs : Vec F S2x64x128 .bf16)

theorem trips60 : k0_t1_loop.trips = 60 := by decide +kernel

theorem trip_eq (k : Fin k0_t1_loop.trips) (acc : FVec F S64x128 .bf16) :
    tripR_k0_t1 Variants.none c none i arg1 harg1 arg2 harg2 arg3 harg3 arg4 harg4 (harg1.unread x) k acc
      = k0_pay13 acc (VecWindow.window x ![0, k.val, 0, 0] ![1, 1, 192, 128] (inb_row k.val (trips60 ▸ k.isLt))) := by
  unfold tripR_k0_t1 trip_k0_t1
  show k0_pay13 acc (View.readAt (Elt F) arg1.view (Rect.unit (s := S1x60x192x128) (k0_off1 k) S1x1x192x128.size (k0_off1_inb k)).toLoadRect (harg1.unread x)) = _
  rw [View.readAt_unit _ _ _ (k0_off1_eq k) (inb_row k.val (trips60 ▸ k.isLt)), harg1.read_unread]

theorem st_eq : ∀ n, n ≤ 60 → st_k0_t1 Variants.none c none i arg1 harg1 arg2 harg2 arg3 harg3 arg4 harg4 (harg1.unread x) k0_pay12 n = rows x n
  | 0, _ => rfl
  | n + 1, h => by
    have hn : n < k0_t1_loop.trips := by rw [trips60]; omega
    rw [st_k0_t1_succ _ _ _ _ _ _ _ _ _ _ _ _ _ _ ⟨n, hn⟩, trip_eq, st_eq n (by omega)]
    show _ = if h : n < 60 then _ else _
    rw [dif_pos (by omega : n < 60)]

theorem st_all : st_k0_t1 Variants.none c none i arg1 harg1 arg2 harg2 arg3 harg3 arg4 harg4 (harg1.unread x) k0_pay12 (Scf.trips 0#32 (Scalar.addi 0#32 60#32) 1#32) = rows x 60 :=
  (congrArg _ (by decide +kernel : Scf.trips 0#32 (Scalar.addi 0#32 60#32) 1#32 = 60)).trans (st_eq c i arg1 harg1 arg2 harg2 arg3 harg3 arg4 harg4 x 60 (Nat.le_refl _))

/-! ## The scratch -/

theorem inb_slab (k : ℕ) (hk : k < 2) : ∀ a, (![k, 0, 0] : Fin 3 → ℕ) a + (![1, 64, 128] : Fin 3 → ℕ) a ≤ S2x64x128.size a := fun a =>
  match a with
  | 0 => by show k + 1 ≤ 2; omega
  | 1 => by show 0 + 64 ≤ 64; omega
  | 2 => by show 0 + 128 ≤ 128; omega

/-- Slab `k` of the scratch. -/
def slab (k : ℕ) (hk : k < 2) (xs : Vec F S2x64x128 .bf16) : Vec F S1x64x128 .bf16 := VecWindow.window xs ![k, 0, 0] ![1, 64, 128] (inb_slab k hk)

/-- The scratch with slab `k` raised to the block's maximum. -/
def raise (k : ℕ) (hk : k < 2) (x : Vec F S1x60x192x128 .bf16) (xs : Vec F S2x64x128 .bf16) : Vec F S2x64x128 .bf16 :=
  VecWindow.put xs ![k, 0, 0] ![1, 64, 128] (k0_pay1 (rows x 60) (slab k hk xs))

/-- The two scales that the slabs give. -/
def xsOf (s1 s0 : Vec F S1x64x128 .bf16) : F .f32 := k0_pay7 (k0_pay4 s1 s0) (k0_pay5 s1 s0) (k0_pay6 s1 s0)
def ncsOf (s1 : Vec F S1x64x128 .bf16) : F .f32 := k0_pay2 (k0_pay8 (k0_pay3 s1)) (k0_pay9 (k0_pay3 s1)) (k0_pay10 (k0_pay3 s1))

theorem runB_read (h1 : ¬ cond1 i) (h2 : ¬ k0_cond2 i = 1#1) (k : ℕ) (hk : k < 2) (ho : k0_off2 i = ![k, 0, 0]) :
    arg4.view.read (Elt F) (arg4.view.writes (Elt F) (harg4.unread xs) (runB c i arg1 harg1 arg2 harg2 arg3 harg3 arg4 harg4 h1 h2 x xs).1) = raise k hk x xs := by
  dsimp only [runB]
  rw [View.read_writes_cons_put _ _ _ _ _ ho, View.writes_nil, harg4.read_unread, st_all, View.readAt_unit _ _ _ ho (inb_slab k hk), harg4.read_unread]
  rfl

theorem runA_read (h1 : cond1 i) (ho : k0_off2 i = ![0, 0, 0]) (h2 : ¬ k0_cond2 i = 1#1) (f : arg4.view.ty.Contents (Elt F)) :
    arg4.view.read (Elt F) (arg4.view.writes (Elt F) f (runA c i arg1 harg1 arg2 harg2 arg3 harg3 arg4 harg4 h1 ho h2 x).1) = raise 0 (by omega) x k0_pay11 := by
  dsimp only [runA]
  unfold runA.sl.v36 runA.sl.HS0_1 View.readCov
  rw [View.read_writes_cons_put _ _ _ _ _ ho, st_all, View.readAt_unit _ _ _ ho (inb_slab 0 (by omega))]
  rw [View.read_writes_full, View.read_writes_full]
  rfl

theorem runC_read (h1 : ¬ cond1 i) (ho : k0_off2 i = ![1, 0, 0]) (h2 : k0_cond2 i = 1#1) :
    arg4.view.read (Elt F) (arg4.view.writes (Elt F) (harg4.unread xs) (runC c i arg1 harg1 arg2 harg2 arg3 harg3 arg4 harg4 h1 ho h2 x xs).2.2.1) = raise 1 (by omega) x xs := by
  dsimp only [runC]
  unfold runC.sl.HS0_1
  rw [View.read_writes_cons_put _ _ _ _ _ ho, View.writes_nil, harg4.read_unread]
  refine congrArg (VecWindow.put xs ![1, 0, 0] ![1, 64, 128]) ?_
  rw [View.readAt_unit _ _ _ ho (inb_slab 1 (by omega)), harg4.read_unread]
  exact congrArg (fun r => k0_pay1 r _) (st_all c i arg1 harg1 arg2 harg2 arg3 harg3 arg4 harg4 x)

theorem v46_eq (ho : k0_off2 i = ![1, 0, 0]) : runC.sl.v46 c i arg1 harg1 arg2 harg2 arg3 harg3 arg4 harg4 x xs = slab 1 (by omega) (raise 1 (by omega) x xs) := by
  unfold runC.sl.v46 runC.sl.HS0_1 View.readCov
  rw [View.readAt_unit _ _ _ rfl (inb_slab 1 (by omega)), View.read_writes_cons_put _ _ _ _ _ ho]
  unfold slab raise
  rw [VecWindow.window_put_same, VecWindow.window_put_same, View.readAt_unit _ _ _ ho (inb_slab 1 (by omega)), harg4.read_unread]
  exact congrArg (fun r => k0_pay1 r _) (st_all c i arg1 harg1 arg2 harg2 arg3 harg3 arg4 harg4 x)

theorem v53_eq : runC.sl.v53 c arg4 harg4 xs = slab 0 (by omega) (raise 1 (by omega) x xs) := by
  unfold runC.sl.v53
  rw [View.readAt_unit _ _ _ rfl (inb_slab 0 (by omega)), harg4.read_unread]
  unfold slab raise
  rw [VecWindow.window_put_of_disjoint _ _ _ _ _ _ _ 0 (.inl (by decide))]

theorem runC_xs (h1 : ¬ cond1 i) (ho : k0_off2 i = ![1, 0, 0]) (h2 : k0_cond2 i = 1#1) (f : arg2.view.ty.Contents (Elt F)) :
    arg2.view.read (Elt F) (arg2.view.writes (Elt F) f (runC c i arg1 harg1 arg2 harg2 arg3 harg3 arg4 harg4 h1 ho h2 x xs).1)
      = fun _ => xsOf (slab 1 (by omega) (raise 1 (by omega) x xs)) (slab 0 (by omega) (raise 1 (by omega) x xs)) := by
  dsimp only [runC]
  rw [View.read_writes_full]
  unfold runC.sl.r_1 runC.sl.r_2 runC.sl.r_3
  rw [v46_eq _ _ _ _ _ _ _ _ _ _ _ _ ho, v53_eq c arg4 harg4 x xs]
  rfl

theorem runC_ncs (h1 : ¬ cond1 i) (ho : k0_off2 i = ![1, 0, 0]) (h2 : k0_cond2 i = 1#1) (f : arg3.view.ty.Contents (Elt F)) :
    arg3.view.read (Elt F) (arg3.view.writes (Elt F) f (runC c i arg1 harg1 arg2 harg2 arg3 harg3 arg4 harg4 h1 ho h2 x xs).2.1)
      = fun _ => ncsOf (slab 1 (by omega) (raise 1 (by omega) x xs)) := by
  dsimp only [runC]
  rw [View.read_writes_full]
  unfold runC.sl.r_5 runC.sl.r_6 runC.sl.r_7 runC.sl.r
  rw [v46_eq _ _ _ _ _ _ _ _ _ _ _ _ ho]
  rfl

end Cert.Scales.Gen

end
-- ==== Proof.BitScaleFrame.lean ====
/- The frame of the scales' call: its proof data, the body at every point, and the run. -/
module

public import proofs.«01_k».proof.Proof.BitScaleState
public import Idealize.ShloMosaic.Lib.Claim

@[expose] public section

set_option maxRecDepth 16384

noncomputable section

namespace Cert.Scales.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev scM : Memref sig .tc .vmem S2x64x128 .bf16 := Memref.whole cc0_scratch0

abbrev kk (n : ℕ) : ℕ := n / 3 % 8 / 6
theorem kk_lt (n : ℕ) : kk n < 2 := by unfold kk; omega

/-- The block of point `t`. -/
abbrev blkAt (c : Dev nD) (t : Fin cfg0.N) : Vec F S1x60x192x128 .bf16 := iblk m c 0 t

/-- The scratch after point `n`. -/
def scr (c : Dev nD) : (n : ℕ) → n < cfg0.N → Vec F S2x64x128 .bf16
  | 0, hn => raise (kk 0) (kk_lt 0) (blkAt m c ⟨0, hn⟩) k0_pay11
  | n + 1, hn => raise (kk (n + 1)) (kk_lt _) (blkAt m c ⟨n + 1, hn⟩) (scr c n (Nat.lt_of_succ_lt hn))

/-- The two scales that the scratch after point `n` gives. -/
def xsAt (c : Dev nD) (n : ℕ) (hn : n < cfg0.N) : Vec F S1 .f32 := fun _ => xsOf (slab 1 (by omega) (scr m c n hn)) (slab 0 (by omega) (scr m c n hn))
def ncsAt (c : Dev nD) (n : ℕ) (hn : n < cfg0.N) : Vec F S1 .f32 := fun _ => ncsOf (slab 1 (by omega) (scr m c n hn))

theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before position `n`: the scratch at what the point before left. -/
def PhiS (c : Dev nD) : (n : ℕ) → n ≤ cfg0.N → sProp 𝕄
  | 0, _ => Pipeline.ΦA spec0 c
  | n + 1, hn => iprop(owns (c : Thread nD τ) scM fullShare (scr m c n hn) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xsAt m c t.val t.isLt
    | ⟨2, _⟩ => ncsAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = xsAt m c t.val t.isLt := by dsimp only [dats]
theorem after0_2 (c : Dev nD) (t : Fin cfg0.N) : (dats m 0 c).after 2 t = ncsAt m c t.val t.isLt := by dsimp only [dats]

theorem before0_0 (c : Dev nD) (t : Fin cfg0.N) (d) : (dats m 0 c).before 0 t d = iblk m c 0 t :=
  before0_0_of m (dats m 0 c) (A_eq m c 0) (after0_0 m c) t d

/-! ## The body at a point -/

theorem PhiS_pos (c : Dev nD) (n : ℕ) (h : n ≤ cfg0.N) (hz : n ≠ 0) :
    PhiS m c n h = iprop(owns (c : Thread nD τ) scM fullShare (scr m c (n - 1) (by omega)) ∗ (∃ r, prngReg c r)) := by
  cases n with
  | zero => exact absurd rfl hz
  | succ n => rfl

theorem scr_zero (c : Dev nD) (t : Fin cfg0.N) (hz : t.val = 0) : scr m c t.val t.isLt = raise 0 (by omega) (blkAt m c t) k0_pay11 := by
  obtain ⟨n, hn⟩ := t
  cases n with
  | zero => rfl
  | succ n => exact absurd hz (Nat.succ_ne_zero n)

theorem scr_pos (c : Dev nD) (t : Fin cfg0.N) (hz : t.val ≠ 0) :
    scr m c t.val t.isLt = raise (kk t.val) (kk_lt _) (blkAt m c t) (scr m c (t.val - 1) (by omega)) := by
  obtain ⟨n, hn⟩ := t
  cases n with
  | zero => exact absurd rfl hz
  | succ n => rfl

theorem raise_congr {k k' : ℕ} (h : k = k') (hk : k < 2) (hk' : k' < 2) (x : Vec F S1x60x192x128 .bf16) (xs : Vec F S2x64x128 .bf16) : raise k hk x xs = raise k' hk' x xs := by
  subst h; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (dats m 0 c).leavesExact 1 t
    ∗ (dats m 0 c).leavesExact 2 t)

theorem idle_of (t : Fin cfg0.N) (h : ¬ k0_cond2 (grid0.coords t) = 1#1) :
    cfg0.idle 1 (cfg0.grid.coords t) = true ∧ cfg0.idle 2 (cfg0.grid.coords t) = true := by
  have e : (!(k0_cond2 (grid0.coords t) == 1#1)) = true := by simp [h]
  exact ⟨e, e⟩

theorem busy_of (t : Fin cfg0.N) (h : k0_cond2 (grid0.coords t) = 1#1) :
    cfg0.idle 1 (cfg0.grid.coords t) = false ∧ cfg0.idle 2 (cfg0.grid.coords t) = false := by
  have e : (!(k0_cond2 (grid0.coords t) == 1#1)) = false := by simp [h]
  exact ⟨e, e⟩

theorem noflush (t : Fin cfg0.N) (h : ¬ t.val = 71) : (cfg0.win 1).flush t = false ∧ (cfg0.win 2).flush t = false := by
  have hN : t.val < 72 := lt_of_lt_of_eq t.isLt (show cfg0.N = 72 from N_0)
  constructor
  · exact Bool.eq_false_iff.2 fun e => by have := (flush0_1 t).1 e; omega
  · exact Bool.eq_false_iff.2 fun e => by have := (flush0_2 t).1 e; omega

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).owesAt () t.succ = (dats m 0 c).owesAt () t.castSucc from rfl, after0_0]
  rw [show (dats m 0 c).Φ t.succ = iprop(owns (c : Thread nD τ) scM fullShare (scr m c t.val t.isLt) ∗ (∃ r, prngReg c r)) from rfl]
  have hN : t.val < 72 := lt_of_lt_of_eq t.isLt (show cfg0.N = 72 from N_0)
  rw [PhiS_castSucc m c t]
  by_cases h71 : t.val = 71
  · have hz : t.val ≠ 0 := by omega
    have h2 := (hcond2 t).2 h71
    have h1 : ¬ cond1 (grid0.coords t) := fun h => hz ((hcond1 t).1 h)
    have ho : k0_off2 (grid0.coords t) = ![1, 0, 0] := by rw [off2_eq t, h71]
    have hs : scr m c t.val t.isLt = raise 1 (by omega) (blkAt m c t) (scr m c (t.val - 1) (by omega)) := by
      rw [scr_pos m c t hz]; exact raise_congr (by unfold kk; rw [h71]) _ _ _ _
    have e1 : (dats m 0 c).leavesExact 1 t = owns (c : Thread nD τ) (st0_1 t) fullShare (xsAt m c t.val t.isLt) := by
      unfold Dat.leavesExact; rw [(busy_of t h2).1, after0_1]
    have e2 : (dats m 0 c).leavesExact 2 t = owns (c : Thread nD τ) (st0_2 t) fullShare (ncsAt m c t.val t.isLt) := by
      unfold Dat.leavesExact; rw [(busy_of t h2).2, after0_2]
    rw [e1, e2, PhiS_pos m c _ _ hz]
    unfold xsAt ncsAt
    rw [hs]
    iintro ⟨⟨HS, Hg⟩, Ho, ⟨%d0, H0⟩, ⟨%d1, H1⟩, ⟨%d2, H2⟩⟩
    iapply ((runC c (grid0.coords t) _ _ _ _ _ _ _ _ h1 ho h2 (blkAt m c t) (scr m c (t.val - 1) (by omega))).2.2.2 Set.univ _)
    isplitl [H0]; · iexact H0
    isplitl [HS]; · iexact HS
    isplitl [H1]; · iexists _; iexact H1
    isplitl [H2]; · iexists _; iexact H2
    iintro ⟨H0, HS, ⟨%f1, H1⟩, ⟨%f2, H2⟩⟩
    isplitl [HS Hg]
    · isplitl [HS]
      · unfold owns; iexists _; isplitr
        swap; · iexact HS
        ipureintro; exact runC_read c _ _ _ _ _ _ _ _ _ _ _ h1 ho h2
      iexact Hg
    isplitl [Ho]; · iexact Ho
    isplitl [H0]; · iexact H0
    isplitl [H1]
    · unfold owns; iexists _; isplitr
      swap; · iexact H1
      ipureintro; exact runC_xs c _ _ _ _ _ _ _ _ _ _ _ h1 ho h2 _
    unfold owns; iexists _; isplitr
    swap; · iexact H2
    ipureintro; exact runC_ncs c _ _ _ _ _ _ _ _ _ _ _ h1 ho h2 _
  · have h2 : ¬ k0_cond2 (grid0.coords t) = 1#1 := fun h => h71 ((hcond2 t).1 h)
    rw [Dat.leavesExact_idle _ _ _ (idle_of t h2).1 (noflush t h71).1, Dat.leavesExact_idle _ _ _ (idle_of t h2).2 (noflush t h71).2]
    by_cases hz : t.val = 0
    · have h1 := (hcond1 t).2 hz
      have ho : k0_off2 (grid0.coords t) = ![0, 0, 0] := by rw [off2_eq t, hz]
      rw [scr_zero m c t hz, show PhiS m c t.val (Nat.le_of_lt t.isLt) = Pipeline.ΦA spec0 c from by
        obtain ⟨n, hn⟩ := t; cases n with
        | zero => rfl
        | succ n => exact absurd hz (Nat.succ_ne_zero n), PhiA_eq]
      iintro ⟨⟨HS, Hg⟩, Ho, ⟨%d0, H0⟩, ⟨%d1, H1⟩, ⟨%d2, H2⟩⟩
      iapply ((runA c (grid0.coords t) _ _ (st0_1 t) (hstage0_1 ((cfg0.slots t 1).cast nbuf0_1)) (st0_2 t) (hstage0_2 ((cfg0.slots t 2).cast nbuf0_2)) _ _ h1 ho h2 (blkAt m c t)).2 Set.univ _)
      isplitl [H0]; · iexact H0
      isplitl [HS]; · iexact HS
      iintro ⟨H0, ⟨%f, HS⟩⟩
      isplitl [HS Hg]
      · isplitl [HS]
        · unfold owns; iexists _; isplitr
          swap; · iexact HS
          ipureintro; exact runA_read c _ _ _ _ _ _ _ _ _ _ h1 ho h2 _
        iexact Hg
      isplitl [Ho]; · iexact Ho
      isplitl [H0]; · iexact H0
      isplitl [H1]; · iexists _; iexact H1
      iexists _; iexact H2
    · have h1 : ¬ cond1 (grid0.coords t) := fun h => hz ((hcond1 t).1 h)
      rw [scr_pos m c t hz, PhiS_pos m c _ _ hz]
      iintro ⟨⟨HS, Hg⟩, Ho, ⟨%d0, H0⟩, ⟨%d1, H1⟩, ⟨%d2, H2⟩⟩
      iapply ((runB c (grid0.coords t) _ _ (st0_1 t) (hstage0_1 ((cfg0.slots t 1).cast nbuf0_1)) (st0_2 t) (hstage0_2 ((cfg0.slots t 2).cast nbuf0_2)) _ _ h1 h2 (blkAt m c t) (scr m c (t.val - 1) (by omega))).2 Set.univ _)
      isplitl [H0]; · iexact H0
      isplitl [HS]; · iexact HS
      iintro ⟨H0, HS⟩
      isplitl [HS Hg]
      · isplitl [HS]
        · unfold owns; iexists _; isplitr
          swap; · iexact HS
          ipureintro; exact runB_read c _ _ _ _ _ _ _ _ _ _ _ h1 h2 _ _ (off2_eq t)
        iexact Hg
      isplitl [Ho]; · iexact Ho
      isplitl [H0]; · iexact H0
      isplitl [H1]; · iexists _; iexact H1
      iexists _; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 72 := N_0; omega), PhiA_eq]
  iintro ⟨HS, Hg⟩
  isplitl [HS]
  · iexists _; iexact HS
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Scales.Gen

end
-- ==== Proof.Model.lean ====
/- What one grid step after the first leaves in its buffers, written as a table: which rectangle of which buffer is
   stored, and the value stored there as a term over the loads. -/
module

public import proofs.«01_k».proof.Proof.Gen.KernelIdeal.Value

@[expose] public section

set_option maxRecDepth 16384

noncomputable section

namespace Cert.KernelIdeal.Conv

open Idealize.ShloMosaic Idealize.ShloMosaic.TcCoe Idealize.ShloMosaic.Tactic
open Cert.KernelIdeal.Gen

variable {F : FTy → Type} [FloatOps F]

/-! ## The values stored -/

/-- The codes of a row: divided by the scale, clipped at the largest code, rounded. -/
def q8 (inv : F .bf16) (v : Vec F S1x1x1x192x128 .bf16) : FVec F S192x128 .fp8e4m3 :=
  truncf .fp8e4m3 (minimumf (broadcast S192x128 (Scalar.ofBits .bf16 0x43E0#16)) (maximumf (broadcast S192x128 (Scalar.ofBits .bf16 0xC3E0#16))
    (mulf (shapeCast S192x128 v shapeCasts_S1x1x1x192x128_S192x128) (broadcast S192x128 inv)))) bitsLt_fp8e4m3_bf16

/-- The lanes that have a lane before them. -/
def hasLeft : IVec S1x128 1 := cmpi .ne (iota .tc S1x128 32 [1] iota_S1x128_d1_w32) (broadcast S1x128 0#32)

/-- The lanes that have a lane after them. -/
def hasRight : IVec S1x128 1 := cmpi .ne (iota .tc S1x128 32 [1] iota_S1x128_d1_w32) (broadcast S1x128 127#32)

/-- A row moved by one lane, the lane that falls in at the end zero. -/
def moved (by_ : BitVec 32) (ok : IVec S1x128 1) (v : FVec F S192x128 .f32) : FVec F S192x128 .f32 :=
  select (broadcastTo S192x128 (shapeCast S1x128 ok shapeCasts_S1x128_S1x128) broadcasts_S1x128_S192x128)
    (dynamicRotate 1 by_ none v rotates_S192x128_d1) (broadcast S192x128 (Scalar.ofBits .f32 0x00000000#32))

/-- The row as tap `kw` of the kernel's width sees it. -/
def tapped (kw : Fin 3) (v : FVec F S192x128 .f32) : FVec F S192x128 .f32 :=
  match kw with
  | 0 => moved 1#32 hasLeft v
  | 1 => v
  | 2 => moved 127#32 hasRight v

/-- What is stored of a row for tap `kw`. -/
def rowVal (kw : Fin 3) (v : FVec F S192x128 .f32) : FVec F S1x192x128 .fp8e4m3 :=
  shapeCast S1x192x128 (truncf .fp8e4m3 (tapped kw v) bitsLt_fp8e4m3_f32) shapeCasts_S192x128_S1x192x128

/-- A row, dropped at the border of the image. -/
def dropped (edge : BitVec 1) (v : FVec F S192x128 .fp8e4m3) : FVec F S192x128 .f32 :=
  Scalar.select edge (broadcast S192x128 (Scalar.ofBits .f32 0x00000000#32)) (extf .f32 v bitsLt_fp8e4m3_f32)

/-- Three taps of a row, dropped at the border of the image. -/
def keptVal (edge : BitVec 1) (v : Vec F S1x576x128 .fp8e4m3) : FVec F S1x576x128 .fp8e4m3 :=
  shapeCast S1x576x128 (truncf .fp8e4m3 (Scalar.select edge (broadcast S576x128 (Scalar.ofBits .f32 0x00000000#32))
    (extf .f32 (shapeCast S576x128 v shapeCasts_S1x576x128_S576x128) bitsLt_fp8e4m3_f32)) bitsLt_fp8e4m3_f32) shapeCasts_S576x128_S1x576x128

/-- A product of a block of weights with a tile of two rows. -/
def prod (w : Vec F S1x32x256 .fp8e4m3) (a b : Vec F S1x256x128 .fp8e4m3) : FVec F S32x256 .f32 :=
  matmul dot_S32x256_S256x256_S32x256_1_0_0_1_n_n none (shapeCast S32x256 w shapeCasts_S1x32x256_S32x256)
    (concatenate S256x256 1 [⟨S256x128, shapeCast S256x128 a shapeCasts_S1x256x128_S256x128⟩, ⟨S256x128, shapeCast S256x128 b shapeCasts_S1x256x128_S256x128⟩]
      concatenates_S256x128_S256x128_S256x256_d1) (constant S32x256 .f32 0x00000000#32)

/-- The half of a product that belongs to row `h` of the two. -/
def half (h : Fin 2) (v : FVec F S32x256 .f32) : FVec F S32x128 .f32 :=
  match h with
  | 0 => extractStridedSlice S32x128 ![0, 0] v slices_S32x256_o0_0_S32x128
  | 1 => extractStridedSlice S32x128 ![0, 128] v slices_S32x256_o0_128_S32x128

/-- What is stored of a sum. -/
def yVal (h : Fin 2) (acc : FVec F S32x256 .f32) (wsx bb : Vec F S32x128 .f32) : FVec F S1x1x1x32x128 .bf16 :=
  shapeCast S1x1x1x32x128 (truncf .bf16 (addf (mulf (half h acc) wsx) bb) bitsLt_bf16_f32) shapeCasts_S32x128_S1x1x1x32x128

/-- Which products make up a sum, in their order: a tap of the kernel's depth and a part of the inner axis. The last
    frame's sum takes the last two frames in turns. -/
def order (t : Fin 6) : List (Fin 3 × Fin 7) :=
  ([0, 1, 2, 3, 4, 5, 6] : List (Fin 7)).map (fun j => (0, j)) ++
    if t.val < 5 then ([1, 2] : List (Fin 3)).flatMap fun kt => ([0, 1, 2, 3, 4, 5, 6] : List (Fin 7)).map fun j => (kt, j)
    else ([0, 1, 2, 3, 4, 5, 6] : List (Fin 7)).flatMap fun j => ([1, 2] : List (Fin 3)).map fun kt => (kt, j)

/-- The sum of the products `P` in the order of a list. -/
def chain (P : Fin 3 × Fin 7 → FVec F S32x256 .f32) : List (Fin 3 × Fin 7) → FVec F S32x256 .f32
  | [] => constant S32x256 .f32 0x00000000#32
  | k :: ks => ks.foldl (fun a k => addf a (P k)) (P k)

/-! ## The rectangles -/

theorem inb_px (f k n : ℕ) (hf : f < 10) (hk : k + n ≤ 3520) :
    ∀ a, (![f, k, 0] : Fin 3 → ℕ) a + (⟨3, ![1, n, 128]⟩ : Shape).size a ≤ S10x3520x128.size a := fun a =>
  match a with
  | 0 => hf
  | 1 => hk
  | 2 => le_refl 128

/-- A box of the padded codes. -/
def pxRect (f k n : ℕ) (hf : f < 10) (hk : k + n ≤ 3520) : Rect S10x3520x128 := Rect.unit ![f, k, 0] (⟨3, ![1, n, 128]⟩ : Shape).size (inb_px f k n hf hk)

theorem inb_x (t r : ℕ) (ht : t < 8) (hr : r < 4) : ∀ a, (![0, t, r, 0, 0] : Fin 5 → ℕ) a + S1x1x1x192x128.size a ≤ S1x8x4x192x128.size a := fun a =>
  match a with
  | 0 => le_refl 1
  | 1 => ht
  | 2 => hr
  | 3 => le_refl 192
  | 4 => le_refl 128

/-- A row of a block of frames. -/
def xRect (t r : ℕ) (ht : t < 8) (hr : r < 4) : Rect S1x8x4x192x128 := Rect.unit ![0, t, r, 0, 0] S1x1x1x192x128.size (inb_x t r ht hr)

theorem inb_nc (t r : ℕ) (ht : t < 2) (hr : r < 4) : ∀ a, (![0, t, r, 0, 0] : Fin 5 → ℕ) a + S1x1x1x192x128.size a ≤ S1x2x4x192x128.size a := fun a =>
  match a with
  | 0 => le_refl 1
  | 1 => ht
  | 2 => hr
  | 3 => le_refl 192
  | 4 => le_refl 128

/-- A row of a block of cached frames. -/
def ncRect (t r : ℕ) (ht : t < 2) (hr : r < 4) : Rect S1x2x4x192x128 := Rect.unit ![0, t, r, 0, 0] S1x1x1x192x128.size (inb_nc t r ht hr)

theorem inb_y (t r o : ℕ) (ht : t < 8) (hr : r < 4) (ho : o + 32 ≤ 96) : ∀ a, (![0, t, r, o, 0] : Fin 5 → ℕ) a + S1x1x1x32x128.size a ≤ S1x8x4x96x128.size a := fun a =>
  match a with
  | 0 => le_refl 1
  | 1 => ht
  | 2 => hr
  | 3 => ho
  | 4 => le_refl 128

/-- A block of output channels of a row. -/
def yRect (t r o : ℕ) (ht : t < 8) (hr : r < 4) (ho : o + 32 ≤ 96) : Rect S1x8x4x96x128 := Rect.unit ![0, t, r, o, 0] S1x1x1x32x128.size (inb_y t r o ht hr ho)

theorem inb_lhs (kt o k : ℕ) (ht : kt < 3) (ho : o + 32 ≤ 96) (hk : k + 256 ≤ 1792) :
    ∀ a, (![kt, o, k] : Fin 3 → ℕ) a + S1x32x256.size a ≤ S3x96x1792.size a := fun a =>
  match a with
  | 0 => ht
  | 1 => ho
  | 2 => hk

/-- A block of the weights. -/
def lhsRect (kt o k : ℕ) (ht : kt < 3) (ho : o + 32 ≤ 96) (hk : k + 256 ≤ 1792) : Rect S3x96x1792 := Rect.unit ![kt, o, k] S1x32x256.size (inb_lhs kt o k ht ho hk)

theorem inb_col (o : ℕ) (ho : o + 32 ≤ 96) : ∀ a, (![o, 0] : Fin 2 → ℕ) a + S32x128.size a ≤ S96x128.size a := fun a =>
  match a with
  | 0 => ho
  | 1 => le_refl 128

/-- A block of a column of output channels. -/
def colRect (o : ℕ) (ho : o + 32 ≤ 96) : Rect S96x128 := Rect.unit ![o, 0] S32x128.size (inb_col o ho)

/-! ## The stores -/

section Stores

variable (inv : F .bf16) (edge : BitVec 1) (lx : Fin 8 → Fin 4 → Vec F S1x1x1x192x128 .bf16)

/-- The stores of the row below the block, of one frame (last first). -/
def haloStores (f : Fin 8) : List (View.Piece (Elt F) S10x3520x128 .fp8e4m3) :=
  ([2, 1, 0] : List (Fin 3)).map fun kw => ⟨pxRect (f.val + 2) (2880 + 192 * kw.val) 192 (by omega) (by omega), rowVal kw (dropped edge (q8 inv (lx f 0)))⟩

/-- The stores of the block's four rows and of the row above them, of one frame (last first). -/
def rowStores (lk : Fin 8 → Vec F S1x576x128 .fp8e4m3) (f : Fin 8) : List (View.Piece (Elt F) S10x3520x128 .fp8e4m3) :=
  (([3, 2, 1, 0] : List (Fin 4)).flatMap fun r => ([2, 1, 0] : List (Fin 3)).map fun kw =>
    ⟨pxRect (f.val + 2) (576 * (r.val + 1) + 192 * kw.val) 192 (by omega) (by omega), rowVal kw (extf .f32 (q8 inv (lx f r)) bitsLt_fp8e4m3_f32)⟩) ++
  [⟨pxRect (f.val + 2) 0 576 (by omega) (by omega), keptVal edge (lk f)⟩]

/-- All the stores of padded codes of the new frames (last first), as far as frame 7 … -/
def frameStores (lk : Fin 8 → Vec F S1x576x128 .fp8e4m3) : ℕ → List (View.Piece (Elt F) S10x3520x128 .fp8e4m3)
  | 0 => haloStores inv edge lx 0
  | n + 1 => haloStores inv edge lx (Fin.ofNat 8 (n + 1)) ++ rowStores inv edge lx lk (Fin.ofNat 8 n) ++ frameStores lk n

/-- … before the rows of the last two frames … -/
def beforeLast (lk : Fin 8 → Vec F S1x576x128 .fp8e4m3) : List (View.Piece (Elt F) S10x3520x128 .fp8e4m3) :=
  haloStores inv edge lx 7 ++ haloStores inv edge lx 6 ++ rowStores inv edge lx lk 5 ++ frameStores inv edge lx lk 5

/-- … and with them. -/
def newStores (lk : Fin 8 → Vec F S1x576x128 .fp8e4m3) : List (View.Piece (Elt F) S10x3520x128 .fp8e4m3) :=
  rowStores inv edge lx lk 7 ++ rowStores inv edge lx lk 6 ++ beforeLast inv edge lx lk

/-- The stores of the codes (last first). -/
def codeStores : List (View.Piece (Elt F) S1x8x4x192x128 .fp8e4m3) :=
  ([7, 6, 5, 4, 3, 2, 1, 0] : List (Fin 8)).flatMap fun t => ([3, 2, 1, 0] : List (Fin 4)).map fun r =>
    ⟨xRect t.val r.val t.isLt r.isLt, shapeCast S1x1x1x192x128 (q8 inv (lx t r)) shapeCasts_S192x128_S1x1x1x192x128⟩

/-- The stores of the new cache (last first). -/
def cacheStores : List (View.Piece (Elt F) S1x2x4x192x128 .fp8e4m3) :=
  ([1, 0] : List (Fin 2)).flatMap fun t => ([3, 2, 1, 0] : List (Fin 4)).map fun r =>
    ⟨ncRect t.val r.val t.isLt r.isLt, shapeCast S1x1x1x192x128 (q8 inv (lx ⟨6 + t.val, by omega⟩ r)) shapeCasts_S192x128_S1x1x1x192x128⟩

/-- The stores of the later frames' outputs (last first). -/
def yStores (lw : Fin 3 → Fin 3 → Fin 7 → Vec F S1x32x256 .fp8e4m3) (lp : Fin 8 → Fin 7 → Fin 2 → Fin 2 → Vec F S1x256x128 .fp8e4m3)
    (wsx bb : Fin 3 → Vec F S32x128 .f32) : List (View.Piece (Elt F) S1x8x4x96x128 .bf16) :=
  ([5, 4, 3, 2, 1, 0] : List (Fin 6)).flatMap fun t => ([1, 0] : List (Fin 2)).flatMap fun q => ([2, 1, 0] : List (Fin 3)).flatMap fun mb =>
    ([1, 0] : List (Fin 2)).map fun h =>
      ⟨yRect (t.val + 2) (2 * q.val + h.val) (32 * mb.val) (by omega) (by omega) (by omega),
        yVal h (chain (fun k => prod (lw k.1 mb k.2) (lp ⟨t.val + k.1.val, by omega⟩ k.2 q 0) (lp ⟨t.val + k.1.val, by omega⟩ k.2 q 1)) (order t)) (wsx mb) (bb mb)⟩

end Stores

/-! ## What the run of a later step stores -/

section Run

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S1x8x4x192x128 .bf16) (harg4 : arg4.IsWhole) (arg5 : Memref sig .tc .vmem S1x2x4x192x128 .fp8e4m3) (harg5 : arg5.IsWhole) (arg6 : Memref sig .tc .vmem S3x1728x96 .fp8e4m3) (harg6 : arg6.IsWhole) (arg7 : Memref sig .tc .vmem S1x96 .f32) (harg7 : arg7.IsWhole) (arg8 : Memref sig .tc .vmem S1x96 .f32) (harg8 : arg8.IsWhole) (arg9 : Memref sig .tc .vmem S1x8x4x96x128 .bf16) (harg9 : arg9.IsWhole) (arg10 : Memref sig .tc .vmem S1x8x4x192x128 .fp8e4m3) (harg10 : arg10.IsWhole) (arg11 : Memref sig .tc .vmem S1x2x4x192x128 .fp8e4m3) (harg11 : arg11.IsWhole) (arg12 : Memref sig .tc .vmem S10x3520x128 .fp8e4m3) (harg12 : arg12.IsWhole) (arg13 : Memref sig .tc .vmem S2x256x256 .fp8e4m3) (harg13 : arg13.IsWhole) (arg14 : Memref sig .tc .vmem S2x4x96x128 .f32) (harg14 : arg14.IsWhole) (arg15 : Memref sig .tc .vmem S3x96x1792 .fp8e4m3) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S2x2x3x32x256 .f32) (harg19 : arg19.IsWhole) (hc0 : ¬cond0_0 i)
    (x0 : Vec F S1 .f32) (x1 : Vec F S1 .f32) (x2 : Vec F S1 .f32) (x3 : Vec F S1x8x4x192x128 .bf16) (x4 : Vec F S1x2x4x192x128 .fp8e4m3) (x5 : Vec F S3x1728x96 .fp8e4m3) (x6 : Vec F S1x96 .f32) (x7 : Vec F S1x96 .f32) (xs0 : Vec F S10x3520x128 .fp8e4m3) (xs1 : Vec F S2x256x256 .fp8e4m3) (xs3 : Vec F S3x96x1792 .fp8e4m3) (xs4 : Vec F S96x128 .f32) (xs5 : Vec F S96x128 .f32) (xs6 : Vec F S96x128 .f32) (xs7 : Vec F S2x2x3x32x256 .f32)

/-- One over the scale, as the run reads it. -/
def invRun : F .bf16 := Scalar.truncf .bf16 bitsLt_bf16_f32 (Scalar.divf (Scalar.ofBits .f32 0x3F800000#32) (arg1.view.readAt (Elt F) (Rect.unit ![0] S1.size inb_S1_S1_0).toLoadRect (harg1.unread x0) (Shape.Idx.first (by decide))))

/-- One over the cache's scale, as the run reads it. -/
def invCacheRun : F .bf16 := Scalar.truncf .bf16 bitsLt_bf16_f32 (Scalar.divf (Scalar.ofBits .f32 0x3F800000#32) (arg2.view.readAt (Elt F) (Rect.unit ![0] S1.size inb_S1_S1_0).toLoadRect (harg2.unread x1) (Shape.Idx.first (by decide))))

/-- A row of the frames, as the run reads it. -/
def rowRun (t : Fin 8) (r : Fin 4) : Vec F S1x1x1x192x128 .bf16 := arg4.view.readAt (Elt F) (xRect t.val r.val t.isLt r.isLt).toLoadRect (harg4.unread x3)

/-- The row that becomes the row above the next block, as the run reads it. -/
def lastRun (f : Fin 8) : Vec F S1x576x128 .fp8e4m3 := arg12.view.readAt (Elt F) (pxRect (f.val + 2) 2304 576 (by omega) (by omega)).toLoadRect (harg12.unread xs0)

/-- A block of the weights, as the run reads it. -/
def lhsRun (kt mb : Fin 3) (j : Fin 7) : Vec F S1x32x256 .fp8e4m3 :=
  arg15.view.readAt (Elt F) (lhsRect kt.val (32 * mb.val) (256 * j.val) kt.isLt (by omega) (by omega)).toLoadRect (harg15.unread xs3)

/-- A block of a column, as the run reads it. -/
def wsxRun (mb : Fin 3) : Vec F S32x128 .f32 := arg16.view.readAt (Elt F) (colRect (32 * mb.val) (by omega)).toLoadRect (harg16.unread xs4)

/-- A block of a column, as the run reads it. -/
def biasRun (mb : Fin 3) : Vec F S32x128 .f32 := arg18.view.readAt (Elt F) (colRect (32 * mb.val) (by omega)).toLoadRect (harg18.unread xs6)

/-- Whether the step's new block is the first of an image, as the run computes it. -/
def edgeRun : BitVec 1 := kernelRun0_B.sl.v20 i

/-- The stores made before a tile of a frame is read. -/
def storesRun (f : Fin 8) (j : Fin 7) : List (View.Piece (Elt F) S10x3520x128 .fp8e4m3) :=
  if f.val < 6 then frameStores (invRun arg1 harg1 x0) (edgeRun i) (rowRun arg4 harg4 x3) (lastRun arg12 harg12 xs0) f.val
  else if f.val = 7 ∧ j.val = 6 then rowStores (invRun arg1 harg1 x0) (edgeRun i) (rowRun arg4 harg4 x3) (lastRun arg12 harg12 xs0) 6 ++ beforeLast (invRun arg1 harg1 x0) (edgeRun i) (rowRun arg4 harg4 x3) (lastRun arg12 harg12 xs0)
  else beforeLast (invRun arg1 harg1 x0) (edgeRun i) (rowRun arg4 harg4 x3) (lastRun arg12 harg12 xs0)

/-- Half a tile of the padded codes, as the run reads it: from what was there before the step, or through the stores. -/
def tileRun (f : Fin 8) (j : Fin 7) (q h : Fin 2) : Vec F S1x256x128 .fp8e4m3 :=
  arg12.view.readAt (Elt F) (pxRect (f.val + 2) (576 * (2 * q.val + h.val) + 256 * j.val) 256 (by omega) (by omega)).toLoadRect
    (if 2880 < 576 * (2 * q.val + h.val) + 256 * j.val + 256 then
      arg12.view.writes (Elt F) (if q.val = 1 ∧ h.val = 1 ∧ j.val = 5 then arg12.view.junk else harg12.unread xs0) (storesRun i arg1 harg1 arg4 harg4 arg12 harg12 x0 x3 xs0 f j)
    else harg12.unread xs0)

end Run

end Cert.KernelIdeal.Conv
-- ==== Proof.Run.lean ====
/- The run of a later step stores what the table says: both sides unfold to the same terms. -/
module

public import proofs.«01_k».proof.Proof.Model

@[expose] public section

set_option maxRecDepth 16384

noncomputable section

namespace Cert.KernelIdeal.Conv

open Idealize.ShloMosaic Idealize.ShloMosaic.TcCoe Idealize.ShloMosaic.Tactic
open Cert.KernelIdeal.Gen

variable {F : FTy → Type} [FloatOps F]

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S1x8x4x192x128 .bf16) (harg4 : arg4.IsWhole) (arg5 : Memref sig .tc .vmem S1x2x4x192x128 .fp8e4m3) (harg5 : arg5.IsWhole) (arg6 : Memref sig .tc .vmem S3x1728x96 .fp8e4m3) (harg6 : arg6.IsWhole) (arg7 : Memref sig .tc .vmem S1x96 .f32) (harg7 : arg7.IsWhole) (arg8 : Memref sig .tc .vmem S1x96 .f32) (harg8 : arg8.IsWhole) (arg9 : Memref sig .tc .vmem S1x8x4x96x128 .bf16) (harg9 : arg9.IsWhole) (arg10 : Memref sig .tc .vmem S1x8x4x192x128 .fp8e4m3) (harg10 : arg10.IsWhole) (arg11 : Memref sig .tc .vmem S1x2x4x192x128 .fp8e4m3) (harg11 : arg11.IsWhole) (arg12 : Memref sig .tc .vmem S10x3520x128 .fp8e4m3) (harg12 : arg12.IsWhole) (arg13 : Memref sig .tc .vmem S2x256x256 .fp8e4m3) (harg13 : arg13.IsWhole) (arg14 : Memref sig .tc .vmem S2x4x96x128 .f32) (harg14 : arg14.IsWhole) (arg15 : Memref sig .tc .vmem S3x96x1792 .fp8e4m3) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S2x2x3x32x256 .f32) (harg19 : arg19.IsWhole) (hc0 : ¬cond0_0 i)
    (x0 : Vec F S1 .f32) (x1 : Vec F S1 .f32) (x2 : Vec F S1 .f32) (x3 : Vec F S1x8x4x192x128 .bf16) (x4 : Vec F S1x2x4x192x128 .fp8e4m3) (x5 : Vec F S3x1728x96 .fp8e4m3) (x6 : Vec F S1x96 .f32) (x7 : Vec F S1x96 .f32) (xs0 : Vec F S10x3520x128 .fp8e4m3) (xs1 : Vec F S2x256x256 .fp8e4m3) (xs3 : Vec F S3x96x1792 .fp8e4m3) (xs4 : Vec F S96x128 .f32) (xs5 : Vec F S96x128 .f32) (xs6 : Vec F S96x128 .f32) (xs7 : Vec F S2x2x3x32x256 .f32)

/-- The codes stored. -/
theorem run_codes : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).2.1 = codeStores (invRun arg1 harg1 x0) (rowRun arg4 harg4 x3) := by
  sl_kernel_rfl

/-- The new cache stored. -/
theorem run_cache : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).2.2.1 = cacheStores (invCacheRun arg2 harg2 x1) (rowRun arg4 harg4 x3) := by
  sl_kernel_rfl

/-- The padded codes of the new frames stored. -/
theorem run_px : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).2.2.2.1.drop 32 = newStores (invRun arg1 harg1 x0) (edgeRun i) (rowRun arg4 harg4 x3) (lastRun arg12 harg12 xs0) := by
  sl_kernel_rfl

/-- The outputs of the later frames stored. -/
theorem run_y : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).1.take 72 = yStores (lhsRun arg15 harg15 xs3) (tileRun i arg1 harg1 arg4 harg4 arg12 harg12 x0 x3 xs0) (wsxRun arg16 harg16 xs4) (biasRun arg18 harg18 xs6) := by
  sl_kernel_rfl

end Cert.KernelIdeal.Conv
-- ==== Proof.RefValue.lean ====
/- The reference, read element by element: its codes are the clipped scaled inputs, and its convolution is the plain sum over the
   twenty-seven taps and the input channels of the padded dequantised frames, scaled and shifted by channel. -/
module

public import proofs.«01_k».proof.Proof.Gen.ReferenceIdeal.Value
public import Idealize.ShloMosaic.Lib.Pointwise

@[expose] public section

noncomputable section

namespace Conv

open Idealize.ShloMosaic

/-- The quantiser over the reals: the scaled value clipped to the range of the codes. -/
def code (v s : EReal) : EReal :=
  min (Ideal.ofBits .f32 0x43E00000#32) (max (Ideal.ofBits .f32 0xC3E00000#32) (v * Ideal.div 1 s))

/-- Frame `f` of the input sequence at a pixel and channel, dequantised: two cached frames, then the new ones. -/
def seqAt (x : (⟨5, ![3, 8, 180, 128, 192]⟩ : Shape).Idx → EReal) (k : (⟨5, ![3, 2, 180, 128, 192]⟩ : Shape).Idx → EReal) (xs ks : EReal)
    (b : Fin 3) (f : Fin 10) (r : Fin 180) (p : Fin 128) (d : Fin 192) : EReal :=
  if h : f.val < 2 then k (ix5 b ⟨f.val, h⟩ r p d) * ks
  else code (x (ix5 b ⟨f.val - 2, by omega⟩ r p d)) xs * xs

/-- The padded frame: row `r` and column `p` count from one row above and one column left of the picture. -/
def padAt (x : (⟨5, ![3, 8, 180, 128, 192]⟩ : Shape).Idx → EReal) (k : (⟨5, ![3, 2, 180, 128, 192]⟩ : Shape).Idx → EReal) (xs ks : EReal)
    (b : Fin 3) (f : Fin 10) (r p : Nat) (d : Fin 192) : EReal :=
  if h : (1 ≤ r ∧ r < 181) ∧ 1 ≤ p ∧ p < 129 then seqAt x k xs ks b f ⟨r - 1, by omega⟩ ⟨p - 1, by omega⟩ d else 0

/-- The convolution at an output pixel and channel, before the channel's scale and bias. -/
def convAt (x : (⟨5, ![3, 8, 180, 128, 192]⟩ : Shape).Idx → EReal) (k : (⟨5, ![3, 2, 180, 128, 192]⟩ : Shape).Idx → EReal) (xs ks : EReal)
    (w : (⟨5, ![3, 3, 3, 192, 96]⟩ : Shape).Idx → EReal) (b : Fin 3) (t : Fin 8) (r : Fin 180) (p : Fin 128) (o : Fin 96) : EReal :=
  ∑ kt : Fin 3, ∑ kh : Fin 3, ∑ kw : Fin 3, ∑ d : Fin 192,
    padAt x k xs ks b ⟨t.val + kt.val, by omega⟩ (r.val + kh.val) (p.val + kw.val) d * w (ix5 kt kh kw d o)

end Conv

namespace Cert.ReferenceIdeal.Value

open Cert.ReferenceIdeal Cert.ReferenceIdeal.Gen Idealize.ShloMosaic Conv

/-- The position of a pixel among all of the output's pixels. -/
abbrev flat (b : Fin 3) (t : Fin 8) (r : Fin 180) (p : Fin 128) : Fin 552960 :=
  ⟨((b.val * 8 + t.val) * 180 + r.val) * 128 + p.val, by omega⟩

/-- Merging the pixel axes of a slab of frames. -/
theorem merge_apply (v : S3x8x180x128x192.Idx → EReal) (h : S3x8x180x128x192.ShapeCasts S552960x192) (b : Fin 3) (t : Fin 8) (r : Fin 180)
    (p : Fin 128) (d : Fin 192) : shapeCast S552960x192 v h (ix2 (flat b t r p) d) = v (ix5 b t r p d) := by
  rw [Pointwise.shapeCast_apply]
  refine congrArg v (Shape.reshapeEquiv_eq_of_vals h _ _ _ _ (rowMajor_val5 (ix5 b t r p d) 35389440 4423680 24576 192 rfl rfl rfl rfl)
    (rowMajor_val2 (ix2 (flat b t r p) d) 192 rfl) ?_)
  simp only [ix5, ix2, flat]
  show b.val * 35389440 + t.val * 4423680 + r.val * 24576 + p.val * 192 + d.val = (((b.val * 8 + t.val) * 180 + r.val) * 128 + p.val) * 192 + d.val
  omega

/-- Splitting the pixel axis of the output. -/
theorem split_apply (v : S552960x96.Idx → EReal) (h : S552960x96.ShapeCasts S3x8x180x128x96) (b : Fin 3) (t : Fin 8) (r : Fin 180)
    (p : Fin 128) (o : Fin 96) : shapeCast S3x8x180x128x96 v h (ix5 b t r p o) = v (ix2 (flat b t r p) o) := by
  rw [Pointwise.shapeCast_apply]
  refine congrArg v (Shape.reshapeEquiv_eq_of_vals h _ _ _ _ (rowMajor_val2 (ix2 (flat b t r p) o) 96 rfl)
    (rowMajor_val5 (ix5 b t r p o) 17694720 2211840 12288 96 rfl rfl rfl rfl) ?_)
  show (((b.val * 8 + t.val) * 180 + r.val) * 128 + p.val) * 96 + o.val = b.val * 17694720 + t.val * 2211840 + r.val * 12288 + p.val * 96 + o.val
  omega

/-- One tap's product at an output pixel and channel: the sum over the input channels. -/
theorem tap_apply (kt kh kw : Nat) (v : FVec Ideal S3x10x182x130x192 .bf16) (w : FVec Ideal S3x3x3x192x96 .bf16)
    (hv : S3x10x182x130x192.Slices ![0, kt, kh, kw, 0] S3x8x180x128x192) (hm : S3x8x180x128x192.ShapeCasts S552960x192)
    (hw : S3x3x3x192x96.Slices ![kt, kh, kw, 0, 0] S1x1x1x192x96) (hc : S1x1x1x192x96.ShapeCasts S192x96)
    (hkt : kt < 3) (hkh : kh < 3) (hkw : kw < 3) (b : Fin 3) (t : Fin 8) (r : Fin 180) (p : Fin 128) (o : Fin 96) :
    matmul dot_S552960x192_S192x96_S552960x96_1_0_0_1_n_n none
        (shapeCast S552960x192 (extractStridedSlice S3x8x180x128x192 ![0, kt, kh, kw, 0] v hv) hm)
        (shapeCast S192x96 (extractStridedSlice S1x1x1x192x96 ![kt, kh, kw, 0, 0] w hw) hc)
        (constant S552960x96 .f32 0x00000000#32) (ix2 (flat b t r p) o)
      = ∑ d : Fin 192, v (ix5 b ⟨kt + t.val, by omega⟩ ⟨kh + r.val, by omega⟩ ⟨kw + p.val, by omega⟩ d)
          * w (ix5 ⟨kt, hkt⟩ ⟨kh, hkh⟩ ⟨kw, hkw⟩ d o) := by
  have hL := merge_apply (extractStridedSlice S3x8x180x128x192 ![0, kt, kh, kw, 0] v hv) hm b t r p
  generalize shapeCast S552960x192 (extractStridedSlice S3x8x180x128x192 ![0, kt, kh, kw, 0] v hv) hm = L at hL ⊢
  pointwise [hL]

/-- The scaled and shifted convolution in the reference's output layout, from padded frames and the codes of the weights. -/
theorem conv_apply (v : FVec Ideal S3x10x182x130x192 .bf16) (w : Vec Ideal S3x3x3x192x96 .fp8e4m3) (ws bs : Vec Ideal S1x96 .f32)
    (b : Fin 3) (t : Fin 8) (r : Fin 180) (p : Fin 128) (o : Fin 96) :
    k0_pay1 v (k0_pay8 w) (k0_pay13 v (k0_pay8 w) (k0_pay12 v (k0_pay8 w) (k0_pay9 v w) (k0_pay10 v) (k0_pay11 w)))
        (k0_pay14 v) (k0_pay15 (k0_pay8 w)) ws bs (ix5 b t r o p)
      = (∑ kt : Fin 3, ∑ kh : Fin 3, ∑ kw : Fin 3, ∑ d : Fin 192,
          v (ix5 b ⟨kt.val + t.val, by omega⟩ ⟨kh.val + r.val, by omega⟩ ⟨kw.val + p.val, by omega⟩ d) * w (ix5 kt kh kw d o))
        * ws (ix2 0 o) + bs (ix2 0 o) := by
  unfold k0_pay1 k0_pay13 k0_pay12 k0_pay9 k0_pay10 k0_pay11 k0_pay14 k0_pay15 k0_pay8
  dsimp only
  have e0 : (((b.val * 8 + t.val) * 180 + r.val) * 128 + p.val) / 184320 = b.val := by omega
  have e1 : (((b.val * 8 + t.val) * 180 + r.val) * 128 + p.val) / 23040 % 8 = t.val := by omega
  have e2 : (((b.val * 8 + t.val) * 180 + r.val) * 128 + p.val) / 128 % 180 = r.val := by omega
  have e3 : (((b.val * 8 + t.val) * 180 + r.val) * 128 + p.val) % 128 = p.val := by omega
  pointwise [split_apply, tap_apply, Fin.sum_univ_three]
  simp only [e0, e1, e2, e3, Fin.eta, add_assoc]

/-- The codes of the whole input. -/
theorem codes_apply (x : Vec Ideal S3x8x180x128x192 .bf16) (s : Elt Ideal .f32) (b : Fin 3) (t : Fin 8) (r : Fin 180) (p : Fin 128)
    (d : Fin 192) : k0_pay2 (k0_pay5 x s) (ix5 b t r d p) = code (x (ix5 b t r p d)) s := by
  pointwise [k0_pay2, k0_pay5, k0_pay4, code]

/-- The codes of the last two frames. -/
theorem cache_apply (x : Vec Ideal S3x8x180x128x192 .bf16) (s : Elt Ideal .f32) (b : Fin 3) (t : Fin 2) (r : Fin 180) (p : Fin 128)
    (d : Fin 192) : k0_pay3 (k0_pay6 x s) (ix5 b t r d p) = code (x (ix5 b ⟨6 + t.val, by omega⟩ r p d)) s := by
  pointwise [k0_pay3, k0_pay6, k0_pay4, code]

/-- The padded, dequantised frames. -/
theorem padded_apply (x : Vec Ideal S3x8x180x128x192 .bf16) (s : Elt Ideal .f32) (k : Vec Ideal S3x2x180x128x192 .fp8e4m3) (ks : Elt Ideal .f32)
    (b : Fin 3) (f : Fin 10) (r : Fin 182) (p : Fin 130) (d : Fin 192) :
    k0_pay7 x s k ks s (ix5 b f r p d) = padAt x k s ks b f r.val p.val d := by
  pointwise [k0_pay7, k0_pay5, k0_pay4, padAt, seqAt, code]
  split_ifs <;> first | rfl | omega | rw [dif_pos (by omega)]

theorem zeros5 : (![0, 0, 0, 0, 0] : Fin 5 → Nat) = fun _ => 0 := by decide
theorem zeros2 : (![0, 0] : Fin 2 → Nat) = fun _ => 0 := by decide

/-- A vector of one has one index. -/
theorem one_idx (i j : S1.Idx) : i = j :=
  funext fun a => match a with
    | ⟨0, _⟩ => Fin.ext (by
        have hi : (i 0).val < 1 := (i 0).isLt
        have hj : (j 0).val < 1 := (j 0).isLt
        show (i 0).val = (j 0).val
        omega)

section Out

variable (c : Dev nD)
  (arg0 : Memref sig .tc .smem S1 .f32) (harg0 : arg0.IsWhole)
  (arg1 : Memref sig .tc .smem S1 .f32) (harg1 : arg1.IsWhole)
  (arg2 : Memref sig .tc .smem S1 .f32) (harg2 : arg2.IsWhole)
  (arg3 : Memref sig .tc .vmem S3x8x180x128x192 .bf16) (harg3 : arg3.IsWhole)
  (arg4 : Memref sig .tc .vmem S3x2x180x128x192 .fp8e4m3) (harg4 : arg4.IsWhole)
  (arg5 : Memref sig .tc .vmem S3x3x3x192x96 .fp8e4m3) (harg5 : arg5.IsWhole)
  (arg6 : Memref sig .tc .vmem S1x96 .f32) (harg6 : arg6.IsWhole)
  (arg7 : Memref sig .tc .vmem S1x96 .f32) (harg7 : arg7.IsWhole)
  (arg8 : Memref sig .tc .vmem S3x8x180x96x128 .bf16) (harg8 : arg8.IsWhole)
  (arg9 : Memref sig .tc .vmem S3x8x180x192x128 .fp8e4m3) (harg9 : arg9.IsWhole)
  (arg10 : Memref sig .tc .vmem S3x2x180x192x128 .fp8e4m3) (harg10 : arg10.IsWhole)
  (x0 : Vec Ideal S1 .f32) (x1 : Vec Ideal S1 .f32) (x2 : Vec Ideal S1 .f32) (x3 : Vec Ideal S3x8x180x128x192 .bf16) (x4 : Vec Ideal S3x2x180x128x192 .fp8e4m3) (x5 : Vec Ideal S3x3x3x192x96 .fp8e4m3) (x6 : Vec Ideal S1x96 .f32) (x7 : Vec Ideal S1x96 .f32)

/-- What the reference stores as its first result. -/
theorem out8_apply (b : Fin 3) (f : Fin 8) (r : Fin 180) (p : Fin 128) (o : Fin 96) :
    out0_A_8 (F := Ideal) c arg0 harg0 arg1 harg1 arg2 harg2 arg3 harg3 arg4 harg4 arg5 harg5 arg6 harg6 arg7 harg7 arg8 harg8 arg9 harg9 arg10 harg10 x0 x1
    x2 x3 x4 x5 x6 x7 (ix5 b f r o p)
      = convAt x3 x4 (x0 (ix1 0)) (x2 (ix1 0)) x5 b f r p o * x6 (ix2 0 o) + x7 (ix2 0 o) := by
  unfold out0_A_8
  rw [View.read_writes_eq_canon _ _ _ (cover0_A_8 c arg0 harg0 arg1 harg1 arg2 harg2 arg3 harg3 arg4 harg4 arg5 harg5 arg6 harg6 arg7 harg7 arg8 harg8 arg9 harg9 arg10 harg10 x0 x1
    x2 x3 x4 x5 x6 x7)]
  unfold kernelRun0_A
  dsimp only
  sl_unfold_words
  rw [View.canon_unit_zero zeros5]
  simp only [View.readAt_eq_ld, Memref.IsWhole.read_unread, View.ld_unit_zero (S := S3x8x180x128x192) zeros5,
    View.ld_unit_zero (S := S3x2x180x128x192) zeros5, View.ld_unit_zero (S := S3x3x3x192x96) zeros5, View.ld_unit_zero (S := S1x96) zeros2]
  rw [conv_apply]
  have h0 : ∀ j, View.ld x0 (Rect.unit ![0] S1.size inb_S1_S1_0) j = x0 (ix1 0) := fun j => congrArg x0 (one_idx _ _)
  have h2 : ∀ j, View.ld x2 (Rect.unit ![0] S1.size inb_S1_S1_0) j = x2 (ix1 0) := fun j => congrArg x2 (one_idx _ _)
  simp only [padded_apply, convAt, Nat.add_comm, h0, h2]

/-- What the reference stores as its second result: the codes of all frames. -/
theorem out9_apply (b : Fin 3) (f : Fin 8) (r : Fin 180) (p : Fin 128) (d : Fin 192) :
    out0_A_9 (F := Ideal) c arg0 harg0 arg1 harg1 arg2 harg2 arg3 harg3 arg4 harg4 arg5 harg5 arg6 harg6 arg7 harg7 arg8 harg8 arg9 harg9 arg10 harg10 x0 x1
    x2 x3 x4 x5 x6 x7 (ix5 b f r d p) = code (x3 (ix5 b f r p d)) (x0 (ix1 0)) := by
  unfold out0_A_9
  rw [View.read_writes_eq_canon _ _ _ (cover0_A_9 c arg0 harg0 arg1 harg1 arg2 harg2 arg3 harg3 arg4 harg4 arg5 harg5 arg6 harg6 arg7 harg7 arg8 harg8 arg9 harg9 arg10 harg10 x0 x1
    x2 x3 x4 x5 x6 x7)]
  unfold kernelRun0_A
  dsimp only
  sl_unfold_words
  rw [View.canon_unit_zero zeros5]
  simp only [View.readAt_eq_ld, Memref.IsWhole.read_unread, View.ld_unit_zero (S := S3x8x180x128x192) zeros5,
    View.ld_unit_zero (S := S3x2x180x128x192) zeros5, View.ld_unit_zero (S := S3x3x3x192x96) zeros5, View.ld_unit_zero (S := S1x96) zeros2]
  rw [codes_apply]
  exact congrArg (code _) (congrArg x0 (one_idx _ _))

/-- What the reference stores as its third result: the codes of the last two frames at the cache's own scale. -/
theorem out10_apply (b : Fin 3) (f : Fin 2) (r : Fin 180) (p : Fin 128) (d : Fin 192) :
    out0_A_10 (F := Ideal) c arg0 harg0 arg1 harg1 arg2 harg2 arg3 harg3 arg4 harg4 arg5 harg5 arg6 harg6 arg7 harg7 arg8 harg8 arg9 harg9 arg10 harg10 x0 x1
    x2 x3 x4 x5 x6 x7 (ix5 b f r d p) = code (x3 (ix5 b ⟨6 + f.val, by omega⟩ r p d)) (x1 (ix1 0)) := by
  unfold out0_A_10
  rw [View.read_writes_eq_canon _ _ _ (cover0_A_10 c arg0 harg0 arg1 harg1 arg2 harg2 arg3 harg3 arg4 harg4 arg5 harg5 arg6 harg6 arg7 harg7 arg8 harg8 arg9 harg9 arg10 harg10 x0 x1
    x2 x3 x4 x5 x6 x7)]
  unfold kernelRun0_A
  dsimp only
  sl_unfold_words
  rw [View.canon_unit_zero zeros5]
  simp only [View.readAt_eq_ld, Memref.IsWhole.read_unread, View.ld_unit_zero (S := S3x8x180x128x192) zeros5,
    View.ld_unit_zero (S := S3x2x180x128x192) zeros5, View.ld_unit_zero (S := S3x3x3x192x96) zeros5, View.ld_unit_zero (S := S1x96) zeros2]
  rw [cache_apply]
  exact congrArg (code _) (congrArg x1 (one_idx _ _))

end Out

end Cert.ReferenceIdeal.Value

end
-- ==== Proof.Cells.lean ====
/- The values a later step stores, read element by element over the reals. -/
module

public import proofs.«01_k».proof.Proof.Model
public import proofs.«01_k».proof.Proof.RefValue

@[expose] public section

noncomputable section

namespace Cert.KernelIdeal.Conv

open Idealize.ShloMosaic Idealize.ShloMosaic.TcCoe Idealize.ShloMosaic.Tactic
open Cert.KernelIdeal.Gen
open _root_.Conv

theorem hi_bits : Ideal.ofBits .bf16 0x43E0#16 = Ideal.ofBits .f32 0x43E00000#32 := by
  simp [Ideal.ofBits, Ideal.ieee]
  rw [← EReal.coe_mul, ← EReal.coe_mul]
  norm_num

theorem lo_bits : Ideal.ofBits .bf16 0xC3E0#16 = Ideal.ofBits .f32 0xC3E00000#32 := by
  simp [Ideal.ofBits, Ideal.ieee]
  rw [← EReal.coe_mul, ← EReal.coe_mul]
  norm_num

/-- The codes of a row, element by element. -/
theorem q8_apply (s : EReal) (v : Vec Ideal S1x1x1x192x128 .bf16) (d : Fin 192) (p : Fin 128) :
    q8 (F := Ideal) (Ideal.div 1 s) v (ix2 d p) = code (v (ix5 0 0 0 d p)) s := by
  pointwise [q8, code, hi_bits, lo_bits]

theorem left_bit (p : Fin 128) : IntOp.cmpi CmpIPredicate.ne (BitVec.ofNat 32 p.val) 0#32 = if p.val = 0 then 0#1 else 1#1 := by
  revert p; decide

theorem right_bit (p : Fin 128) : IntOp.cmpi CmpIPredicate.ne (BitVec.ofNat 32 p.val) 127#32 = if p.val = 127 then 0#1 else 1#1 := by
  revert p; decide

/-- A row as a tap sees it: one column to the left or to the right, zero outside. -/
theorem tapped_apply (kw : Fin 3) (v : FVec Ideal S192x128 .f32) (d : Fin 192) (p : Fin 128) :
    tapped kw v (ix2 d p) = if h : 1 ≤ p.val + kw.val ∧ p.val + kw.val < 129 then v (ix2 d ⟨p.val + kw.val - 1, by omega⟩) else 0 := by
  match kw with
  | 0 =>
    pointwise [tapped, moved, hasLeft]
    rw [left_bit, Scalar.select]
    split_ifs <;> first | omega | rfl | (congr 3; omega) | simp_all
  | 1 =>
    pointwise [tapped]
    rw [dif_pos (by omega)]
    rfl
  | 2 =>
    pointwise [tapped, moved, hasRight]
    rw [right_bit, Scalar.select]
    split_ifs <;> first | omega | rfl | (congr 3; omega) | simp_all

theorem rowVal_apply (kw : Fin 3) (v : FVec Ideal S192x128 .f32) (d : Fin 192) (p : Fin 128) :
    rowVal kw v (ix3 0 d p) = if h : 1 ≤ p.val + kw.val ∧ p.val + kw.val < 129 then v (ix2 d ⟨p.val + kw.val - 1, by omega⟩) else 0 := by
  rw [← tapped_apply]
  pointwise [rowVal]

theorem dropped_apply (e : BitVec 1) (v : FVec Ideal S192x128 .fp8e4m3) (d : Fin 192) (p : Fin 128) :
    dropped e v (ix2 d p) = if e = 1#1 then 0 else v (ix2 d p) := by
  pointwise [dropped]
  rfl

theorem keptVal_apply (e : BitVec 1) (v : Vec Ideal S1x576x128 .fp8e4m3) (k : Fin 576) (p : Fin 128) :
    keptVal e v (ix3 0 k p) = if e = 1#1 then 0 else v (ix3 0 k p) := by
  pointwise [keptVal]
  rfl

theorem prod_apply (w : Vec Ideal S1x32x256 .fp8e4m3) (a b : Vec Ideal S1x256x128 .fp8e4m3) (o : Fin 32) (h : Fin 2) (p : Fin 128) :
    prod w a b (ix2 o ⟨128 * h.val + p.val, by omega⟩) = ∑ k : Fin 256, w (ix3 0 o k) * (match h with | 0 => a | 1 => b) (ix3 0 k p) := by
  match h with
  | 0 =>
    pointwise [prod]
  | 1 =>
    pointwise [prod]

theorem yVal_apply (h : Fin 2) (acc : FVec Ideal S32x256 .f32) (wsx bb : Vec Ideal S32x128 .f32) (o : Fin 32) (p : Fin 128) :
    yVal h acc wsx bb (ix5 0 0 0 o p) = acc (ix2 o ⟨128 * h.val + p.val, by omega⟩) * wsx (ix2 o p) + bb (ix2 o p) := by
  match h with
  | 0 => pointwise [yVal, half]
  | 1 => pointwise [yVal, half]

end Cert.KernelIdeal.Conv
-- ==== Proof.Stores.lean ====
/- What a later step leaves in its buffers, element by element over the reals. -/
module

public import proofs.«01_k».proof.Proof.Run
public import proofs.«01_k».proof.Proof.Cells

@[expose] public section

set_option maxRecDepth 16384

noncomputable section

namespace Cert.KernelIdeal.Conv

open Idealize.ShloMosaic Idealize.ShloMosaic.TcCoe Idealize.ShloMosaic.Tactic
open Cert.KernelIdeal.Gen
open _root_.Conv

/-! ## Reading back a list of stores -/

section Lists

variable {sig' : RefSig} {κ : Kind} {sp : Space} {s : Shape} {e : EltTy} {Val : EltTy → Type}

/-- An element some store holds reads as the value all the stores that hold it agree on. -/
theorem read_of_pieces (v : View sig' κ sp s e) (f : v.ty.Contents Val) (y : s.Idx) (g : Val e) :
    ∀ L : List (View.Piece Val s e), (∀ p ∈ L, ∀ x, p.1.emb x = y → p.2 x = g) → (∃ p ∈ L, y ∈ p.1.set) → v.read Val (v.writes Val f L) y = g
  | [], _, h => by obtain ⟨_, hm, _⟩ := h; exact absurd hm List.not_mem_nil
  | p :: L, hL, hc => by
    by_cases hy : y ∈ p.1.set
    · have hy' := hy
      rw [← Rect.map_emb_univ] at hy'
      obtain ⟨x, -, rfl⟩ := Finset.mem_map.1 hy'
      rw [View.read_writes_cons_emb]
      exact hL p List.mem_cons_self x rfl
    · have hy' : y ∉ Finset.univ.map p.1.emb := by rwa [Rect.map_emb_univ]
      rw [View.writes_cons, View.read_slice_write_of_not_mem p.1 _ _ _ hy']
      refine read_of_pieces v f y g L (fun q hq => hL q (List.mem_cons_of_mem _ hq)) ?_
      obtain ⟨q, hq, hm⟩ := hc
      rcases List.mem_cons.1 hq with rfl | hq
      · exact absurd hm hy
      · exact ⟨q, hq, hm⟩

/-- Every element of a rectangle one thick along an axis has the rectangle's offset there. -/
theorem emb_axis (r : Rect s) (a : Fin s.rank) (h1 : r.size a = 1) (x : r.shape.Idx) : (r.emb x a).val = r.off a := by
  have hx : (x a).val < r.size a := (x a).isLt
  have h0 : (x a).val = 0 := by omega
  show r.off a + r.stride a * (x a).val = r.off a
  rw [h0, Nat.mul_zero, Nat.add_zero]

end Lists

/-! ## Where the boxes lie -/

theorem px_idx {f k n : ℕ} (hf : f < 10) (hk : k + n ≤ 3520) (x : (pxRect f k n hf hk).shape.Idx) : ∃ (d : Fin n) (p : Fin 128), x = ix3 0 d p := by
  refine ⟨x 1, x 2, funext fun a => ?_⟩
  match a with
  | 0 => exact Fin.ext (by have h : (x 0).val < 1 := (x 0).isLt; show (x 0).val = 0; omega)
  | 1 => rfl
  | 2 => rfl

theorem px_emb {f k n : ℕ} (hf : f < 10) (hk : k + n ≤ 3520) (d : Fin n) (p : Fin 128) :
    (pxRect f k n hf hk).emb (ix3 0 d p) = (ix3 ⟨f, hf⟩ ⟨k + d.val, by omega⟩ p : S10x3520x128.Idx) := by
  refine funext fun a => ?_
  match a with
  | 0 => exact Fin.ext (by show f + 1 * 0 = f; omega)
  | 1 => exact Fin.ext (by show k + 1 * d.val = k + d.val; omega)
  | 2 => exact Fin.ext (by show 0 + 1 * p.val = p.val; omega)

theorem px_mem {f k n : ℕ} (hf : f < 10) (hk : k + n ≤ 3520) (g : Fin 10) (z : Fin 3520) (p : Fin 128) :
    (ix3 g z p : S10x3520x128.Idx) ∈ (pxRect f k n hf hk).set ↔ g.val = f ∧ k ≤ z.val ∧ z.val < k + n := by
  unfold pxRect
  rw [Rect.mem_set_unit]
  constructor
  · intro h
    have h0 : f ≤ g.val ∧ g.val < f + 1 := h 0
    have h1 : k ≤ z.val ∧ z.val < k + n := h 1
    omega
  · intro h a
    match a with
    | 0 => show f ≤ g.val ∧ g.val < f + 1; omega
    | 1 => show k ≤ z.val ∧ z.val < k + n; omega
    | 2 => show 0 ≤ p.val ∧ p.val < 0 + 128; omega

theorem x_idx {t r : ℕ} (ht : t < 8) (hr : r < 4) (x : (xRect t r ht hr).shape.Idx) : ∃ (d : Fin 192) (p : Fin 128), x = ix5 0 0 0 d p := by
  refine ⟨x 3, x 4, funext fun a => ?_⟩
  match a with
  | 0 => exact Fin.ext (by have h : (x 0).val < 1 := (x 0).isLt; show (x 0).val = 0; omega)
  | 1 => exact Fin.ext (by have h : (x 1).val < 1 := (x 1).isLt; show (x 1).val = 0; omega)
  | 2 => exact Fin.ext (by have h : (x 2).val < 1 := (x 2).isLt; show (x 2).val = 0; omega)
  | 3 => rfl
  | 4 => rfl

theorem x_emb {t r : ℕ} (ht : t < 8) (hr : r < 4) (d : Fin 192) (p : Fin 128) :
    (xRect t r ht hr).emb (ix5 0 0 0 d p) = (ix5 0 ⟨t, ht⟩ ⟨r, hr⟩ d p : S1x8x4x192x128.Idx) := by
  refine funext fun a => ?_
  match a with
  | 0 => rfl
  | 1 => exact Fin.ext (by show t + 1 * 0 = t; omega)
  | 2 => exact Fin.ext (by show r + 1 * 0 = r; omega)
  | 3 => exact Fin.ext (by show 0 + 1 * d.val = d.val; omega)
  | 4 => exact Fin.ext (by show 0 + 1 * p.val = p.val; omega)

theorem nc_idx {t r : ℕ} (ht : t < 2) (hr : r < 4) (x : (ncRect t r ht hr).shape.Idx) : ∃ (d : Fin 192) (p : Fin 128), x = ix5 0 0 0 d p := by
  refine ⟨x 3, x 4, funext fun a => ?_⟩
  match a with
  | 0 => exact Fin.ext (by have h : (x 0).val < 1 := (x 0).isLt; show (x 0).val = 0; omega)
  | 1 => exact Fin.ext (by have h : (x 1).val < 1 := (x 1).isLt; show (x 1).val = 0; omega)
  | 2 => exact Fin.ext (by have h : (x 2).val < 1 := (x 2).isLt; show (x 2).val = 0; omega)
  | 3 => rfl
  | 4 => rfl

theorem nc_emb {t r : ℕ} (ht : t < 2) (hr : r < 4) (d : Fin 192) (p : Fin 128) :
    (ncRect t r ht hr).emb (ix5 0 0 0 d p) = (ix5 0 ⟨t, ht⟩ ⟨r, hr⟩ d p : S1x2x4x192x128.Idx) := by
  refine funext fun a => ?_
  match a with
  | 0 => rfl
  | 1 => exact Fin.ext (by show t + 1 * 0 = t; omega)
  | 2 => exact Fin.ext (by show r + 1 * 0 = r; omega)
  | 3 => exact Fin.ext (by show 0 + 1 * d.val = d.val; omega)
  | 4 => exact Fin.ext (by show 0 + 1 * p.val = p.val; omega)

theorem y_idx {t r o : ℕ} (ht : t < 8) (hr : r < 4) (ho : o + 32 ≤ 96) (x : (yRect t r o ht hr ho).shape.Idx) : ∃ (d : Fin 32) (p : Fin 128), x = ix5 0 0 0 d p := by
  refine ⟨x 3, x 4, funext fun a => ?_⟩
  match a with
  | 0 => exact Fin.ext (by have h : (x 0).val < 1 := (x 0).isLt; show (x 0).val = 0; omega)
  | 1 => exact Fin.ext (by have h : (x 1).val < 1 := (x 1).isLt; show (x 1).val = 0; omega)
  | 2 => exact Fin.ext (by have h : (x 2).val < 1 := (x 2).isLt; show (x 2).val = 0; omega)
  | 3 => rfl
  | 4 => rfl

theorem y_emb {t r o : ℕ} (ht : t < 8) (hr : r < 4) (ho : o + 32 ≤ 96) (d : Fin 32) (p : Fin 128) :
    (yRect t r o ht hr ho).emb (ix5 0 0 0 d p) = (ix5 0 ⟨t, ht⟩ ⟨r, hr⟩ ⟨o + d.val, by omega⟩ p : S1x8x4x96x128.Idx) := by
  refine funext fun a => ?_
  match a with
  | 0 => rfl
  | 1 => exact Fin.ext (by show t + 1 * 0 = t; omega)
  | 2 => exact Fin.ext (by show r + 1 * 0 = r; omega)
  | 3 => exact Fin.ext (by show o + 1 * d.val = o + d.val; omega)
  | 4 => exact Fin.ext (by show 0 + 1 * p.val = p.val; omega)

theorem lhs_emb {kt o k : ℕ} (ht : kt < 3) (ho : o + 32 ≤ 96) (hk : k + 256 ≤ 1792) (d : Fin 32) (p : Fin 256) :
    (lhsRect kt o k ht ho hk).emb (ix3 0 d p) = (ix3 ⟨kt, ht⟩ ⟨o + d.val, by omega⟩ ⟨k + p.val, by omega⟩ : S3x96x1792.Idx) := by
  refine funext fun a => ?_
  match a with
  | 0 => exact Fin.ext (by show kt + 1 * 0 = kt; omega)
  | 1 => exact Fin.ext (by show o + 1 * d.val = o + d.val; omega)
  | 2 => exact Fin.ext (by show k + 1 * p.val = k + p.val; omega)

theorem col_emb {o : ℕ} (ho : o + 32 ≤ 96) (d : Fin 32) (p : Fin 128) :
    (colRect o ho).emb (ix2 d p) = (ix2 ⟨o + d.val, by omega⟩ p : S96x128.Idx) := by
  refine funext fun a => ?_
  match a with
  | 0 => exact Fin.ext (by show o + 1 * d.val = o + d.val; omega)
  | 1 => exact Fin.ext (by show 0 + 1 * p.val = p.val; omega)

/-! ## The stores of padded codes -/

/-- A row of codes, as tap `kw` of channel `d` sees it at column `p`; zero beyond the ends. -/
def tapCode (row : Fin 192 → Fin 128 → EReal) (s : EReal) (kw : ℕ) (d : Fin 192) (p : Fin 128) : EReal :=
  if h : 1 ≤ p.val + kw ∧ p.val + kw < 129 then code (row d ⟨p.val + kw - 1, by omega⟩) s else 0

/-- What the padded codes of a new frame hold after a step: the row above the block, its four rows, and the row below the one
    before it. -/
def cellOf (s : EReal) (edge : BitVec 1) (x : Vec Ideal S1x8x4x192x128 .bf16) (old : Fin 8 → Fin 576 → Fin 128 → EReal) (f : Fin 8) (k : ℕ) (p : Fin 128) : EReal :=
  if h : k < 576 then if edge = 1#1 then 0 else old f ⟨k, h⟩ p
  else if h : k < 2880 then tapCode (fun d p => x (ix5 0 f ⟨k / 576 - 1, by omega⟩ d p)) s (k % 576 / 192) ⟨k % 192, by omega⟩ p
  else if edge = 1#1 then 0 else tapCode (fun d p => x (ix5 0 f 0 d p)) s (k % 576 / 192) ⟨k % 192, by omega⟩ p

theorem tap_at (row : Fin 4 → Fin 192 → Fin 128 → EReal) (s : EReal) (a b c : ℕ) (ha : a < 4) (hc : c < 192) (r : Fin 4) (kw : ℕ) (d : Fin 192)
    (ea : a = r.val) (eb : b = kw) (ec : c = d.val) (p : Fin 128) : tapCode (row ⟨a, ha⟩) s b ⟨c, hc⟩ p = tapCode (row r) s kw d p := by
  subst eb
  obtain rfl : (⟨a, ha⟩ : Fin 4) = r := Fin.ext ea
  obtain rfl : (⟨c, hc⟩ : Fin 192) = d := Fin.ext ec
  rfl

section Stores

variable (s : EReal) (edge : BitVec 1) (x : Vec Ideal S1x8x4x192x128 .bf16) (lx : Fin 8 → Fin 4 → Vec Ideal S1x1x1x192x128 .bf16)
  (old : Fin 8 → Fin 576 → Fin 128 → EReal) (lk : Fin 8 → Vec Ideal S1x576x128 .fp8e4m3)
  (hx : ∀ t r d p, lx t r (ix5 0 0 0 d p) = x (ix5 0 t r d p)) (hk : ∀ f k p, lk f (ix3 0 k p) = old f k p)

theorem rowVal_code (kw : Fin 3) (t : Fin 8) (r : Fin 4) (hx : ∀ t r d p, lx t r (ix5 0 0 0 d p) = x (ix5 0 t r d p)) (d : Fin 192) (p : Fin 128) :
    rowVal kw (extf .f32 (q8 (F := Ideal) (Ideal.div 1 s) (lx t r)) bitsLt_fp8e4m3_f32) (ix3 0 d p) = tapCode (fun d p => x (ix5 0 t r d p)) s kw.val d p := by
  rw [rowVal_apply]
  unfold tapCode
  refine dite_congr rfl (fun h => ?_) fun h => rfl
  exact (q8_apply s (lx t r) d _).trans (congrArg (code · s) (hx t r d _))

include hx in
/-- A store of the row below holds what the table of cells says. -/
theorem halo_good (f : Fin 8) (q) (hq : q ∈ haloStores (F := Ideal) (Ideal.div 1 s) edge lx f) (z) :
    ∃ (k : Fin 3520) (p : Fin 128), q.1.emb z = (ix3 ⟨f.val + 2, by omega⟩ k p : S10x3520x128.Idx) ∧ 2880 ≤ k.val ∧ k.val < 3456 ∧ q.2 z = cellOf s edge x old f k.val p := by
  obtain ⟨kw, -, rfl⟩ := List.mem_map.1 hq
  obtain ⟨d, p, rfl⟩ := px_idx (by omega) (by omega) z
  refine ⟨⟨2880 + 192 * kw.val + d.val, by omega⟩, p, px_emb (by omega) (by omega) d p, ?_, ?_, ?_⟩
  · show 2880 ≤ 2880 + 192 * kw.val + d.val; omega
  · show 2880 + 192 * kw.val + d.val < 3456; omega
  · show rowVal kw (dropped edge (q8 (Ideal.div 1 s) (lx f 0))) (ix3 0 d p) = _
    unfold cellOf
    rw [dif_neg (by show ¬ 2880 + 192 * kw.val + d.val < 576; omega), dif_neg (by show ¬ 2880 + 192 * kw.val + d.val < 2880; omega)]
    have e1 : (2880 + 192 * kw.val + d.val) % 576 / 192 = kw.val := by omega
    have e2 : (⟨(2880 + 192 * kw.val + d.val) % 192, by omega⟩ : Fin 192) = d := Fin.ext (by show (2880 + 192 * kw.val + d.val) % 192 = d.val; omega)
    show _ = if edge = 1#1 then 0 else tapCode _ s ((2880 + 192 * kw.val + d.val) % 576 / 192) ⟨(2880 + 192 * kw.val + d.val) % 192, _⟩ p
    rw [e1, e2, ← rowVal_code s x lx kw f 0 hx]
    by_cases h : edge = 1#1
    · rw [if_pos h, rowVal_apply]
      split_ifs
      · rw [dropped_apply, if_pos h]
      · rfl
    · rw [if_neg h, rowVal_apply, rowVal_apply]
      split_ifs
      · rw [dropped_apply, if_neg h]; rfl
      · rfl

include hx hk in
/-- A store of the block's rows, or of the row above, holds what the table of cells says. -/
theorem row_good (f : Fin 8) (q) (hq : q ∈ rowStores (F := Ideal) (Ideal.div 1 s) edge lx lk f) (z) :
    ∃ (k : Fin 3520) (p : Fin 128), q.1.emb z = (ix3 ⟨f.val + 2, by omega⟩ k p : S10x3520x128.Idx) ∧ k.val < 2880 ∧ q.2 z = cellOf s edge x old f k.val p := by
  rcases List.mem_append.1 hq with hq | hq
  · obtain ⟨r, -, hq⟩ := List.mem_flatMap.1 hq
    obtain ⟨kw, -, rfl⟩ := List.mem_map.1 hq
    obtain ⟨d, p, rfl⟩ := px_idx (by omega) (by omega) z
    refine ⟨⟨576 * (r.val + 1) + 192 * kw.val + d.val, by omega⟩, p, px_emb (by omega) (by omega) d p, ?_, ?_⟩
    · show 576 * (r.val + 1) + 192 * kw.val + d.val < 2880; omega
    · show rowVal kw (extf .f32 (q8 (F := Ideal) (Ideal.div 1 s) (lx f r)) bitsLt_fp8e4m3_f32) (ix3 0 d p) = _
      unfold cellOf
      rw [dif_neg (by show ¬ 576 * (r.val + 1) + 192 * kw.val + d.val < 576; omega), dif_pos (by show 576 * (r.val + 1) + 192 * kw.val + d.val < 2880; omega), rowVal_code s x lx kw f r hx]
      refine (tap_at (fun r d p => x (ix5 0 f r d p)) s _ _ _ _ _ r kw.val d ?_ ?_ ?_ p).symm
      · show (576 * (r.val + 1) + 192 * kw.val + d.val) / 576 - 1 = r.val; omega
      · show (576 * (r.val + 1) + 192 * kw.val + d.val) % 576 / 192 = kw.val; omega
      · show (576 * (r.val + 1) + 192 * kw.val + d.val) % 192 = d.val; omega
  · obtain rfl := List.mem_singleton.1 hq
    obtain ⟨k, p, rfl⟩ := px_idx (by omega) (by omega) z
    refine ⟨⟨0 + k.val, by omega⟩, p, px_emb (by omega) (by omega) k p, ?_, ?_⟩
    · show 0 + k.val < 2880; omega
    · show keptVal edge (lk f) (ix3 0 k p) = _
      have e : 0 + k.val < 576 := by omega
      unfold cellOf
      rw [dif_pos e, keptVal_apply, hk]
      have e1 : (⟨0 + k.val, e⟩ : Fin 576) = k := Fin.ext (Nat.zero_add _)
      show _ = if edge = 1#1 then 0 else old f ⟨0 + k.val, e⟩ p
      rw [e1]

/-- The row below is stored whole. -/
theorem halo_cover (f : Fin 8) (k : Fin 3520) (p : Fin 128) (h : 2880 ≤ k.val) (h' : k.val < 3456) :
    ∃ q ∈ haloStores (F := Ideal) (Ideal.div 1 s) edge lx f, (ix3 ⟨f.val + 2, by omega⟩ k p : S10x3520x128.Idx) ∈ q.1.set := by
  refine ⟨_, List.mem_map.2 ⟨⟨(k.val - 2880) / 192, by omega⟩, ?_, rfl⟩, (px_mem (by omega) (by omega) _ _ _).2 ⟨rfl, ?_, ?_⟩⟩
  · generalize (⟨(k.val - 2880) / 192, by omega⟩ : Fin 3) = a; revert a; decide
  · show 2880 + 192 * ((k.val - 2880) / 192) ≤ k.val; omega
  · show k.val < 2880 + 192 * ((k.val - 2880) / 192) + 192; omega

/-- The block's rows and the row above are stored whole. -/
theorem row_cover (f : Fin 8) (k : Fin 3520) (p : Fin 128) (h : k.val < 2880) :
    ∃ q ∈ rowStores (F := Ideal) (Ideal.div 1 s) edge lx lk f, (ix3 ⟨f.val + 2, by omega⟩ k p : S10x3520x128.Idx) ∈ q.1.set := by
  by_cases h0 : k.val < 576
  · exact ⟨_, List.mem_append_right _ (List.mem_singleton.2 rfl), (px_mem (by omega) (by omega) _ _ _).2 ⟨rfl, Nat.zero_le _, by show k.val < 0 + 576; omega⟩⟩
  · refine ⟨_, List.mem_append_left _ (List.mem_flatMap.2 ⟨⟨k.val / 576 - 1, by omega⟩, ?_, List.mem_map.2 ⟨⟨k.val % 576 / 192, by omega⟩, ?_, rfl⟩⟩), (px_mem (by omega) (by omega) _ _ _).2 ⟨rfl, ?_, ?_⟩⟩
    · generalize (⟨k.val / 576 - 1, by omega⟩ : Fin 4) = a; revert a; decide
    · generalize (⟨k.val % 576 / 192, by omega⟩ : Fin 3) = a; revert a; decide
    · show 576 * (k.val / 576 - 1 + 1) + 192 * (k.val % 576 / 192) ≤ k.val; omega
    · show k.val < 576 * (k.val / 576 - 1 + 1) + 192 * (k.val % 576 / 192) + 192; omega

/-- Where the stores made as far as a frame come from. -/
theorem frameStores_mem (n : ℕ) (hn : n < 8) (q) (hq : q ∈ frameStores (F := Ideal) (Ideal.div 1 s) edge lx lk n) :
    (∃ f, q ∈ haloStores (F := Ideal) (Ideal.div 1 s) edge lx f) ∨ ∃ f : Fin 8, f.val < n ∧ q ∈ rowStores (F := Ideal) (Ideal.div 1 s) edge lx lk f := by
  induction n with
  | zero => exact .inl ⟨0, hq⟩
  | succ n ih =>
    rcases List.mem_append.1 hq with hq | hq
    · rcases List.mem_append.1 hq with hq | hq
      · exact .inl ⟨_, hq⟩
      · exact .inr ⟨Fin.ofNat 8 n, by show n % 8 < n + 1; omega, hq⟩
    · rcases ih (by omega) hq with h | ⟨f, h, hf⟩
      · exact .inl h
      · exact .inr ⟨f, by omega, hf⟩

/-- The stores as far as a frame hold its row below. -/
theorem frameStores_halo (f : Fin 8) (q) (hq : q ∈ haloStores (F := Ideal) (Ideal.div 1 s) edge lx f) :
    q ∈ frameStores (F := Ideal) (Ideal.div 1 s) edge lx lk f.val := by
  obtain ⟨n, hn⟩ := f
  match n with
  | 0 => exact hq
  | n + 1 =>
    have e : (Fin.ofNat 8 (n + 1)) = ⟨n + 1, hn⟩ := Fin.ext (Nat.mod_eq_of_lt hn)
    exact List.mem_append_left _ (List.mem_append_left _ (by rw [e]; exact hq))

theorem frameStores_mono (n k : ℕ) (q) (hq : q ∈ frameStores (F := Ideal) (Ideal.div 1 s) edge lx lk n) :
    q ∈ frameStores (F := Ideal) (Ideal.div 1 s) edge lx lk (n + k) := by
  induction k with
  | zero => exact hq
  | succ k ih => exact List.mem_append_right _ ih

theorem frameStores_row (f : Fin 8) (n : ℕ) (hn : f.val < n) (q) (hq : q ∈ rowStores (F := Ideal) (Ideal.div 1 s) edge lx lk f) :
    q ∈ frameStores (F := Ideal) (Ideal.div 1 s) edge lx lk n := by
  have e : Fin.ofNat 8 f.val = f := Fin.ext (Nat.mod_eq_of_lt f.isLt)
  obtain ⟨k, rfl⟩ : ∃ k, n = f.val + 1 + k := ⟨n - (f.val + 1), by omega⟩
  refine frameStores_mono _ _ _ _ _ _ _ (List.mem_append_left _ (List.mem_append_right _ ?_))
  rw [e]; exact hq

/-- Where the stores made before the last frames' rows come from. -/
theorem beforeLast_mem (q) (hq : q ∈ beforeLast (F := Ideal) (Ideal.div 1 s) edge lx lk) :
    (∃ f, q ∈ haloStores (F := Ideal) (Ideal.div 1 s) edge lx f) ∨ ∃ f : Fin 8, f.val < 6 ∧ q ∈ rowStores (F := Ideal) (Ideal.div 1 s) edge lx lk f := by
  rcases List.mem_append.1 hq with hq | hq
  · rcases List.mem_append.1 hq with hq | hq
    · rcases List.mem_append.1 hq with hq | hq
      · exact .inl ⟨_, hq⟩
      · exact .inl ⟨_, hq⟩
    · exact .inr ⟨5, by decide, hq⟩
  · rcases frameStores_mem _ _ _ _ _ (by decide) _ hq with h | ⟨f, h, hf⟩
    · exact .inl h
    · exact .inr ⟨f, by omega, hf⟩

/-- All rows below are stored by then. -/
theorem beforeLast_halo (f : Fin 8) (q) (hq : q ∈ haloStores (F := Ideal) (Ideal.div 1 s) edge lx f) :
    q ∈ beforeLast (F := Ideal) (Ideal.div 1 s) edge lx lk := by
  by_cases h : f.val < 6
  · refine List.mem_append_right _ ?_
    have := frameStores_mono s edge lx lk f.val (5 - f.val) q (frameStores_halo _ _ _ _ f q hq)
    rwa [Nat.add_sub_cancel' (by omega)] at this
  · refine List.mem_append_left _ (List.mem_append_left _ (List.mem_append.2 ?_))
    by_cases h' : f.val = 7
    · exact .inl (by rw [show f = 7 from Fin.ext h'] at hq; exact hq)
    · exact .inr (by rw [show f = 6 from Fin.ext (by show f.val = 6; omega)] at hq; exact hq)

theorem beforeLast_row (f : Fin 8) (hf : f.val < 6) (q) (hq : q ∈ rowStores (F := Ideal) (Ideal.div 1 s) edge lx lk f) :
    q ∈ beforeLast (F := Ideal) (Ideal.div 1 s) edge lx lk := by
  by_cases h : f.val < 5
  · exact List.mem_append_right _ (frameStores_row _ _ _ _ f 5 h q hq)
  · refine List.mem_append_left _ (List.mem_append_right _ ?_)
    rw [show f = 5 from Fin.ext (by show f.val = 5; omega)] at hq; exact hq

include hx hk in
/-- After the stores of a step, every padded code of a new frame is what the table of cells says. -/
theorem new_read {sig' : RefSig} {κ : Kind} {sp : Space} (v : View sig' κ sp S10x3520x128 .fp8e4m3) (g : v.ty.Contents (Elt Ideal))
    (L : List (View.Piece (Elt Ideal) S10x3520x128 .fp8e4m3)) (hL : ∀ q ∈ L, q.1.off 0 ≤ 1 ∧ q.1.size 0 = 1)
    (f : Fin 8) (k : Fin 3520) (p : Fin 128) (h : k.val < 3456) :
    v.read (Elt Ideal) (v.writes (Elt Ideal) g (L ++ newStores (F := Ideal) (Ideal.div 1 s) edge lx lk)) (ix3 ⟨f.val + 2, by omega⟩ k p) = cellOf s edge x old f k.val p := by
  have inv : ∀ (f' : Fin 8) (k' : Fin 3520) (p' : Fin 128), (ix3 ⟨f'.val + 2, by omega⟩ k' p' : S10x3520x128.Idx) = ix3 ⟨f.val + 2, by omega⟩ k p → f' = f ∧ k' = k ∧ p' = p := by
    intro f' k' p' e
    have e0 : f'.val + 2 = f.val + 2 := congrArg (fun z : S10x3520x128.Idx => (z 0).val) e
    exact ⟨Fin.ext (by omega), congrArg (fun z : S10x3520x128.Idx => z 1) e, congrArg (fun z : S10x3520x128.Idx => z 2) e⟩
  have hH : ∀ f' q, q ∈ haloStores (F := Ideal) (Ideal.div 1 s) edge lx f' → ∀ z, q.1.emb z = (ix3 ⟨f.val + 2, by omega⟩ k p : S10x3520x128.Idx) → q.2 z = cellOf s edge x old f k.val p := by
    intro f' q hq z e
    obtain ⟨k', p', e', -, -, hv⟩ := halo_good s edge x lx old hx f' q hq z
    obtain ⟨rfl, rfl, rfl⟩ := inv f' k' p' (e'.symm.trans e)
    exact hv
  have hR : ∀ f' q, q ∈ rowStores (F := Ideal) (Ideal.div 1 s) edge lx lk f' → ∀ z, q.1.emb z = (ix3 ⟨f.val + 2, by omega⟩ k p : S10x3520x128.Idx) → q.2 z = cellOf s edge x old f k.val p := by
    intro f' q hq z e
    obtain ⟨k', p', e', -, hv⟩ := row_good s edge x lx old lk hx hk f' q hq z
    obtain ⟨rfl, rfl, rfl⟩ := inv f' k' p' (e'.symm.trans e)
    exact hv
  refine read_of_pieces v g _ _ _ ?_ ?_
  · intro q hq z e
    rcases List.mem_append.1 hq with hq | hq
    · obtain ⟨h0, h1⟩ := hL q hq
      have := emb_axis q.1 0 h1 z
      rw [e] at this
      have : f.val + 2 = q.1.off 0 := this
      omega
    · rcases List.mem_append.1 hq with hq | hq
      · rcases List.mem_append.1 hq with hq | hq
        · exact hR _ q hq z e
        · exact hR _ q hq z e
      · rcases beforeLast_mem _ _ _ _ q hq with ⟨f', hq⟩ | ⟨f', -, hq⟩
        · exact hH f' q hq z e
        · exact hR f' q hq z e
  · by_cases h0 : k.val < 2880
    · obtain ⟨q, hq, hm⟩ := row_cover s edge lx lk f k p h0
      refine ⟨q, List.mem_append_right _ ?_, hm⟩
      by_cases hf : f.val < 6
      · exact List.mem_append_right _ (beforeLast_row _ _ _ _ f hf q hq)
      · refine List.mem_append_left _ (List.mem_append.2 ?_)
        by_cases h' : f.val = 7
        · exact .inl (by rw [show f = 7 from Fin.ext h'] at hq; exact hq)
        · exact .inr (by rw [show f = 6 from Fin.ext (by show f.val = 6; omega)] at hq; exact hq)
    · obtain ⟨q, hq, hm⟩ := halo_cover s edge lx f k p (by omega) h
      exact ⟨q, List.mem_append_right _ (List.mem_append_right _ (beforeLast_halo _ _ _ _ f q hq)), hm⟩

end Stores

end Cert.KernelIdeal.Conv
-- ==== Proof.Step.lean ====
/- What a later step leaves in its buffers, element by element over the reals. -/
module

public import proofs.«01_k».proof.Proof.Stores

@[expose] public section

set_option maxRecDepth 16384

noncomputable section

namespace Cert.KernelIdeal.Conv

open Idealize.ShloMosaic Idealize.ShloMosaic.TcCoe Idealize.ShloMosaic.Tactic
open Cert.KernelIdeal.Gen
open _root_.Conv

/-! ## Sums in the order of the run -/

/-- Adding up a chain of blocks is one sum. -/
theorem chain_apply (P : Fin 3 × Fin 7 → FVec Ideal S32x256 .f32) (t : Fin 6) (y : S32x256.Idx) :
    chain P (order t) y = ∑ kt : Fin 3, ∑ j : Fin 7, P (kt, j) y := by
  have h : ∀ (ks : List (Fin 3 × Fin 7)) (a : FVec Ideal S32x256 .f32), ks.foldl (fun a k => addf a (P k)) a y = a y + (ks.map fun k => P k y).sum := by
    intro ks
    induction ks with
    | nil => intro a; show a y = a y + 0; rw [add_zero]
    | cons k ks ih =>
      intro a
      rw [List.foldl_cons, ih, List.map_cons, List.sum_cons, ← add_assoc]
      rfl
  have h' : ∀ (k) (ks : List (Fin 3 × Fin 7)), chain P (k :: ks) y = ((k :: ks).map fun k => P k y).sum := fun k ks => h ks (P k)
  have e : order t = (0, 0) :: (order t).tail := by revert t; decide
  have hn : (order t).Nodup := by revert t; decide
  have hu : (order t).toFinset = Finset.univ := by revert t; decide
  rw [e, h', ← e, ← List.sum_toFinset _ hn, hu, Fintype.sum_prod_type]

theorem one_idx (i j : S1.Idx) : i = j :=
  funext fun a => match a with
    | ⟨0, _⟩ => Fin.ext (by
        have hi : (i 0).val < 1 := (i 0).isLt
        have hj : (j 0).val < 1 := (j 0).isLt
        show (i 0).val = (j 0).val
        omega)

theorem one_bits : Ideal.ofBits .f32 0x3F800000#32 = 1 := by
  simp [Ideal.ofBits, Ideal.ieee]
  rw [← EReal.coe_mul]
  norm_num

/-- The element a rectangle names lies in it. -/
theorem emb_mem {s : Shape} (r : Rect s) (x : r.shape.Idx) : r.emb x ∈ r.set := by
  rw [← Rect.map_emb_univ]
  exact Finset.mem_map_of_mem _ (Finset.mem_univ _)

/-- Reading a box of a buffer, at an element of the box. -/
theorem box_apply {sig' : RefSig} {κ : Kind} {sp : Space} {s : Shape} {e : EltTy} (v : View sig' κ sp s e) (r : Rect s) (g : v.ty.Contents (Elt Ideal)) (w : r.shape.Idx) :
    v.readAt (Elt Ideal) r.toLoadRect g w = v.read (Elt Ideal) g (r.emb w) := by
  rw [View.readAt_apply]
  rfl

/-- Reading a box of a buffer of known contents. -/
theorem load_apply {sp : Space} {s : Shape} {e : EltTy} (M : Memref sig .tc sp s e) (hM : M.IsWhole) (r : Rect s) (x : Vec Ideal s e) (w : r.shape.Idx) :
    M.view.readAt (Elt Ideal) r.toLoadRect (hM.unread x) w = x (r.emb w) := by
  rw [box_apply, hM.read_unread]

/-- A row of codes in the shape of its block. -/
theorem cast_row (v : Vec Ideal S192x128 .fp8e4m3) (d : Fin 192) (p : Fin 128) :
    shapeCast S1x1x1x192x128 v shapeCasts_S192x128_S1x1x1x192x128 (ix5 0 0 0 d p) = v (ix2 d p) := by
  pointwise []

section Run

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S1x8x4x192x128 .bf16) (harg4 : arg4.IsWhole) (arg5 : Memref sig .tc .vmem S1x2x4x192x128 .fp8e4m3) (harg5 : arg5.IsWhole) (arg6 : Memref sig .tc .vmem S3x1728x96 .fp8e4m3) (harg6 : arg6.IsWhole) (arg7 : Memref sig .tc .vmem S1x96 .f32) (harg7 : arg7.IsWhole) (arg8 : Memref sig .tc .vmem S1x96 .f32) (harg8 : arg8.IsWhole) (arg9 : Memref sig .tc .vmem S1x8x4x96x128 .bf16) (harg9 : arg9.IsWhole) (arg10 : Memref sig .tc .vmem S1x8x4x192x128 .fp8e4m3) (harg10 : arg10.IsWhole) (arg11 : Memref sig .tc .vmem S1x2x4x192x128 .fp8e4m3) (harg11 : arg11.IsWhole) (arg12 : Memref sig .tc .vmem S10x3520x128 .fp8e4m3) (harg12 : arg12.IsWhole) (arg13 : Memref sig .tc .vmem S2x256x256 .fp8e4m3) (harg13 : arg13.IsWhole) (arg14 : Memref sig .tc .vmem S2x4x96x128 .f32) (harg14 : arg14.IsWhole) (arg15 : Memref sig .tc .vmem S3x96x1792 .fp8e4m3) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S2x2x3x32x256 .f32) (harg19 : arg19.IsWhole) (hc0 : ¬cond0_0 i)
    (x0 : Vec Ideal S1 .f32) (x1 : Vec Ideal S1 .f32) (x2 : Vec Ideal S1 .f32) (x3 : Vec Ideal S1x8x4x192x128 .bf16) (x4 : Vec Ideal S1x2x4x192x128 .fp8e4m3) (x5 : Vec Ideal S3x1728x96 .fp8e4m3) (x6 : Vec Ideal S1x96 .f32) (x7 : Vec Ideal S1x96 .f32) (xs0 : Vec Ideal S10x3520x128 .fp8e4m3) (xs1 : Vec Ideal S2x256x256 .fp8e4m3) (xs3 : Vec Ideal S3x96x1792 .fp8e4m3) (xs4 : Vec Ideal S96x128 .f32) (xs5 : Vec Ideal S96x128 .f32) (xs6 : Vec Ideal S96x128 .f32) (xs7 : Vec Ideal S2x2x3x32x256 .f32)

/-! ## Loads -/

theorem invRun_eq : invRun (F := Ideal) arg1 harg1 x0 = Ideal.div 1 (x0 (ix1 0)) := by
  unfold invRun
  rw [View.readAt_apply, harg1.read_unread]
  exact congrArg₂ Ideal.div one_bits (congrArg x0 (one_idx _ _))

theorem invCacheRun_eq : invCacheRun (F := Ideal) arg2 harg2 x1 = Ideal.div 1 (x1 (ix1 0)) := by
  unfold invCacheRun
  rw [View.readAt_apply, harg2.read_unread]
  exact congrArg₂ Ideal.div one_bits (congrArg x1 (one_idx _ _))

theorem rowRun_apply (t : Fin 8) (r : Fin 4) (d : Fin 192) (p : Fin 128) : rowRun (F := Ideal) arg4 harg4 x3 t r (ix5 0 0 0 d p) = x3 (ix5 0 t r d p) := by
  exact (load_apply arg4 harg4 (xRect t.val r.val t.isLt r.isLt) x3 (ix5 0 0 0 d p)).trans (congrArg x3 (x_emb t.isLt r.isLt d p))

theorem lastRun_apply (f : Fin 8) (k : Fin 576) (p : Fin 128) : lastRun (F := Ideal) arg12 harg12 xs0 f (ix3 0 k p) = xs0 (ix3 ⟨f.val + 2, by omega⟩ ⟨2304 + k.val, by omega⟩ p) := by
  exact (load_apply arg12 harg12 (pxRect (f.val + 2) 2304 576 (by omega) (by omega)) xs0 (ix3 0 k p)).trans (congrArg xs0 (px_emb (by omega) (by omega) k p))

theorem lhsRun_apply (kt mb : Fin 3) (j : Fin 7) (o : Fin 32) (k : Fin 256) :
    lhsRun (F := Ideal) arg15 harg15 xs3 kt mb j (ix3 0 o k) = xs3 (ix3 kt ⟨32 * mb.val + o.val, by omega⟩ ⟨256 * j.val + k.val, by omega⟩) := by
  exact (load_apply arg15 harg15 (lhsRect kt.val (32 * mb.val) (256 * j.val) kt.isLt (by omega) (by omega)) xs3 (ix3 0 o k)).trans (congrArg xs3 (lhs_emb kt.isLt (by omega) (by omega) o k))

theorem wsxRun_apply (mb : Fin 3) (o : Fin 32) (p : Fin 128) : wsxRun (F := Ideal) arg16 harg16 xs4 mb (ix2 o p) = xs4 (ix2 ⟨32 * mb.val + o.val, by omega⟩ p) := by
  exact (load_apply arg16 harg16 (colRect (32 * mb.val) (by omega)) xs4 (ix2 o p)).trans (congrArg xs4 (col_emb (by omega) o p))

theorem biasRun_apply (mb : Fin 3) (o : Fin 32) (p : Fin 128) : biasRun (F := Ideal) arg18 harg18 xs6 mb (ix2 o p) = xs6 (ix2 ⟨32 * mb.val + o.val, by omega⟩ p) := by
  exact (load_apply arg18 harg18 (colRect (32 * mb.val) (by omega)) xs6 (ix2 o p)).trans (congrArg xs6 (col_emb (by omega) o p))

/-- What the padded codes of the new frames hold after the step. -/
def cellRun (i : grid0.Coords) (x0 : Vec Ideal S1 .f32) (x3 : Vec Ideal S1x8x4x192x128 .bf16) (xs0 : Vec Ideal S10x3520x128 .fp8e4m3) (f : Fin 8) (k : ℕ) (p : Fin 128) : EReal :=
  cellOf (x0 (ix1 0)) (edgeRun i) x3 (fun f k p => xs0 (ix3 ⟨f.val + 2, by omega⟩ ⟨2304 + k.val, by omega⟩ p)) f k p

/-- A tile of the padded codes: the block's five upper rows as the last step left them, the row below as this step stores it. -/
theorem tileRun_apply (f : Fin 8) (j : Fin 7) (q h : Fin 2) (k : Fin 256) (p : Fin 128) (hk : 576 * (2 * q.val + h.val) + 256 * j.val + k.val < 3456) :
    tileRun (F := Ideal) i arg1 harg1 arg4 harg4 arg12 harg12 x0 x3 xs0 f j q h (ix3 0 k p) =
      if 576 * (2 * q.val + h.val) + 256 * j.val + k.val < 2880 then xs0 (ix3 ⟨f.val + 2, by omega⟩ ⟨576 * (2 * q.val + h.val) + 256 * j.val + k.val, by omega⟩ p)
      else cellRun i x0 x3 xs0 f (576 * (2 * q.val + h.val) + 256 * j.val + k.val) p := by
  have hidx : (pxRect (f.val + 2) (576 * (2 * q.val + h.val) + 256 * j.val) 256 (by omega) (by omega)).emb (ix3 0 k p) =
      (ix3 ⟨f.val + 2, by omega⟩ ⟨576 * (2 * q.val + h.val) + 256 * j.val + k.val, by omega⟩ p : S10x3520x128.Idx) := px_emb (by omega) (by omega) k p
  refine (box_apply arg12.view (pxRect (f.val + 2) (576 * (2 * q.val + h.val) + 256 * j.val) 256 (by omega) (by omega)) _ (ix3 0 k p)).trans ?_
  rw [hidx]
  have hold : arg12.view.read (Elt Ideal) (harg12.unread xs0) = xs0 := harg12.read_unread xs0
  have hst : ∀ z ∈ storesRun (F := Ideal) i arg1 harg1 arg4 harg4 arg12 harg12 x0 x3 xs0 f j,
      (∃ f', z ∈ haloStores (F := Ideal) (Ideal.div 1 (x0 (ix1 0))) (edgeRun i) (rowRun (F := Ideal) arg4 harg4 x3) f') ∨
      ∃ f' : Fin 8, f' ≠ f ∧ z ∈ rowStores (F := Ideal) (Ideal.div 1 (x0 (ix1 0))) (edgeRun i) (rowRun (F := Ideal) arg4 harg4 x3) (lastRun (F := Ideal) arg12 harg12 xs0) f' := by
    intro z hz
    unfold storesRun at hz
    rw [invRun_eq] at hz
    split_ifs at hz with h1 h2
    · rcases frameStores_mem _ _ _ _ _ (by omega) z hz with h | ⟨f', hf, hz⟩
      · exact .inl h
      · exact .inr ⟨f', fun e => by rw [e] at hf; omega, hz⟩
    · rcases List.mem_append.1 hz with hz | hz
      · exact .inr ⟨6, fun e => by rw [← e] at h2; exact absurd h2.1 (by decide), hz⟩
      · rcases beforeLast_mem _ _ _ _ z hz with h | ⟨f', hf, hz⟩
        · exact .inl h
        · exact .inr ⟨f', fun e => by rw [e] at hf; omega, hz⟩
    · rcases beforeLast_mem _ _ _ _ z hz with h | ⟨f', hf, hz⟩
      · exact .inl h
      · exact .inr ⟨f', fun e => by rw [e] at hf; omega, hz⟩
  have hhalo : ∀ z ∈ haloStores (F := Ideal) (Ideal.div 1 (x0 (ix1 0))) (edgeRun i) (rowRun (F := Ideal) arg4 harg4 x3) f,
      z ∈ storesRun (F := Ideal) i arg1 harg1 arg4 harg4 arg12 harg12 x0 x3 xs0 f j := by
    intro z hz
    unfold storesRun
    rw [invRun_eq]
    split_ifs with h1 h2
    · exact frameStores_halo _ _ _ _ f z hz
    · exact List.mem_append_right _ (beforeLast_halo _ _ _ _ f z hz)
    · exact beforeLast_halo _ _ _ _ f z hz
  generalize storesRun (F := Ideal) i arg1 harg1 arg4 harg4 arg12 harg12 x0 x3 xs0 f j = L at hst hhalo ⊢
  by_cases hc : 576 * (2 * q.val + h.val) + 256 * j.val + k.val < 2880
  · rw [if_pos hc]
    split_ifs with h1 h2
    · exfalso; omega
    · rw [View.read_writes_apply_of_forall_not_mem, hold]
      intro z hz hm
      rw [← Rect.map_emb_univ] at hm
      obtain ⟨w, -, e⟩ := Finset.mem_map.1 hm
      rcases hst z hz with ⟨f', hz⟩ | ⟨f', hf, hz⟩
      · obtain ⟨k', p', e', h3, -, -⟩ := halo_good (x0 (ix1 0)) (edgeRun i) x3 (rowRun (F := Ideal) arg4 harg4 x3) (fun _ _ _ => 0) (rowRun_apply arg4 harg4 x3) f' z hz w
        have : 576 * (2 * q.val + h.val) + 256 * j.val + k.val = k'.val := congrArg (fun y : S10x3520x128.Idx => (y 1).val) (e.symm.trans e')
        omega
      · obtain ⟨k', p', e', -, -⟩ := row_good (x0 (ix1 0)) (edgeRun i) x3 (rowRun (F := Ideal) arg4 harg4 x3) _ (lastRun (F := Ideal) arg12 harg12 xs0) (rowRun_apply arg4 harg4 x3) (lastRun_apply arg12 harg12 xs0) f' z hz w
        have : f.val + 2 = f'.val + 2 := congrArg (fun y : S10x3520x128.Idx => (y 0).val) (e.symm.trans e')
        exact hf (Fin.ext (by omega))
    · rw [hold]
  · rw [if_neg hc, if_pos (by omega)]
    refine read_of_pieces _ _ _ _ L ?_ ?_
    · intro z hz w e
      rcases hst z hz with ⟨f', hz⟩ | ⟨f', hf, hz⟩
      · obtain ⟨k', p', e', -, -, hv⟩ := halo_good (x0 (ix1 0)) (edgeRun i) x3 (rowRun (F := Ideal) arg4 harg4 x3)
          (fun f k p => xs0 (ix3 ⟨f.val + 2, by omega⟩ ⟨2304 + k.val, by omega⟩ p)) (rowRun_apply arg4 harg4 x3) f' z hz w
        have h0 : f'.val + 2 = f.val + 2 := congrArg (fun y : S10x3520x128.Idx => (y 0).val) (e'.symm.trans e)
        have h1 : k'.val = 576 * (2 * q.val + h.val) + 256 * j.val + k.val := congrArg (fun y : S10x3520x128.Idx => (y 1).val) (e'.symm.trans e)
        have h2 : p' = p := congrArg (fun y : S10x3520x128.Idx => y 2) (e'.symm.trans e)
        obtain rfl : f' = f := Fin.ext (by omega)
        rw [hv, h1, h2]
        rfl
      · obtain ⟨k', p', e', -, -⟩ := row_good (x0 (ix1 0)) (edgeRun i) x3 (rowRun (F := Ideal) arg4 harg4 x3) _ (lastRun (F := Ideal) arg12 harg12 xs0) (rowRun_apply arg4 harg4 x3) (lastRun_apply arg12 harg12 xs0) f' z hz w
        have : f'.val + 2 = f.val + 2 := congrArg (fun y : S10x3520x128.Idx => (y 0).val) (e'.symm.trans e)
        exact absurd (Fin.ext (by omega)) hf
    · obtain ⟨z, hz, hm⟩ := halo_cover (x0 (ix1 0)) (edgeRun i) (rowRun (F := Ideal) arg4 harg4 x3) f ⟨576 * (2 * q.val + h.val) + 256 * j.val + k.val, by omega⟩ p (by show 2880 ≤ 576 * (2 * q.val + h.val) + 256 * j.val + k.val; omega) hk
      exact ⟨z, hhalo z hz, hm⟩

/-! ## Buffers after the step -/

/-- The codes the step puts into its block. -/
theorem codes_apply (t : Fin 8) (r : Fin 4) (d : Fin 192) (p : Fin 128) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7 (ix5 0 t r d p) = code (x3 (ix5 0 t r d p)) (x0 (ix1 0)) := by
  unfold out0_B_9
  rw [run_codes, invRun_eq]
  refine read_of_pieces _ _ _ _ _ ?_ ?_
  · intro z hz w e
    obtain ⟨t', -, hz⟩ := List.mem_flatMap.1 hz
    obtain ⟨r', -, rfl⟩ := List.mem_map.1 hz
    obtain ⟨d', p', rfl⟩ := x_idx (by omega) (by omega) w
    rw [x_emb] at e
    obtain rfl : t' = t := congrArg (fun y : S1x8x4x192x128.Idx => y 1) e
    obtain rfl : r' = r := congrArg (fun y : S1x8x4x192x128.Idx => y 2) e
    obtain rfl : d' = d := congrArg (fun y : S1x8x4x192x128.Idx => y 3) e
    obtain rfl : p' = p := congrArg (fun y : S1x8x4x192x128.Idx => y 4) e
    refine Eq.trans ?_ ((q8_apply (x0 (ix1 0)) (rowRun (F := Ideal) arg4 harg4 x3 t' r') d' p').trans (congrArg (code · _) (rowRun_apply arg4 harg4 x3 t' r' d' p')))
    exact cast_row (q8 (F := Ideal) (Ideal.div 1 (x0 (ix1 0))) (rowRun (F := Ideal) arg4 harg4 x3 t' r')) d' p'
  · refine ⟨_, List.mem_flatMap.2 ⟨t, by revert t; decide, List.mem_map.2 ⟨r, by revert r; decide, rfl⟩⟩, ?_⟩
    show _ ∈ (xRect t.val r.val t.isLt r.isLt).set
    rw [← x_emb t.isLt r.isLt d p]
    exact emb_mem _ _

/-- The new cache the step puts into its block. -/
theorem cache_apply (t : Fin 2) (r : Fin 4) (d : Fin 192) (p : Fin 128) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7 (ix5 0 t r d p) = code (x3 (ix5 0 ⟨6 + t.val, by omega⟩ r d p)) (x1 (ix1 0)) := by
  unfold out0_B_10
  rw [run_cache, invCacheRun_eq]
  refine read_of_pieces _ _ _ _ _ ?_ ?_
  · intro z hz w e
    obtain ⟨t', -, hz⟩ := List.mem_flatMap.1 hz
    obtain ⟨r', -, rfl⟩ := List.mem_map.1 hz
    obtain ⟨d', p', rfl⟩ := nc_idx (by omega) (by omega) w
    rw [nc_emb] at e
    obtain rfl : t' = t := congrArg (fun y : S1x2x4x192x128.Idx => y 1) e
    obtain rfl : r' = r := congrArg (fun y : S1x2x4x192x128.Idx => y 2) e
    obtain rfl : d' = d := congrArg (fun y : S1x2x4x192x128.Idx => y 3) e
    obtain rfl : p' = p := congrArg (fun y : S1x2x4x192x128.Idx => y 4) e
    refine Eq.trans ?_ ((q8_apply (x1 (ix1 0)) (rowRun (F := Ideal) arg4 harg4 x3 ⟨6 + t'.val, by omega⟩ r') d' p').trans (congrArg (code · _) (rowRun_apply arg4 harg4 x3 ⟨6 + t'.val, by omega⟩ r' d' p')))
    exact cast_row (q8 (F := Ideal) (Ideal.div 1 (x1 (ix1 0))) (rowRun (F := Ideal) arg4 harg4 x3 ⟨6 + t'.val, by omega⟩ r')) d' p'
  · refine ⟨_, List.mem_flatMap.2 ⟨t, by revert t; decide, List.mem_map.2 ⟨r, by revert r; decide, rfl⟩⟩, ?_⟩
    show _ ∈ (ncRect t.val r.val t.isLt r.isLt).set
    rw [← nc_emb t.isLt r.isLt d p]
    exact emb_mem _ _

/-- The stores of padded codes of the cached frames lie in those frames. -/
theorem px_rest : ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).2.2.2.1.take 32).all (fun q => decide (q.1.off 0 ≤ 1) && decide (q.1.size 0 = 1)) = true := by
  sl_kernel_rfl

/-- The padded codes of a new frame after the step. -/
theorem px_apply (f : Fin 8) (k : Fin 3520) (p : Fin 128) (h : k.val < 3456) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7 (ix3 ⟨f.val + 2, by omega⟩ k p) = cellRun i x0 x3 xs0 f k.val p := by
  unfold sout0_B_0
  rw [← List.take_append_drop 32 ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).2.2.2.1), run_px, invRun_eq]
  refine new_read _ _ _ _ _ _ (rowRun_apply arg4 harg4 x3) (lastRun_apply arg12 harg12 xs0) _ _ _ ?_ f k p h
  intro q hq
  have := List.all_eq_true.1 (px_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7) q hq
  rw [Bool.and_eq_true, decide_eq_true_eq, decide_eq_true_eq] at this
  exact this

/-- The outputs of the first two frames are stored in those frames. -/
theorem y_rest : ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).1.drop 72).all (fun q => decide (q.1.off 1 ≤ 1) && decide (q.1.size 1 = 1)) = true := by
  sl_kernel_rfl

/-- The padded codes a row of the block's outputs is computed from. -/
def patch (i : grid0.Coords) (x0 : Vec Ideal S1 .f32) (x3 : Vec Ideal S1x8x4x192x128 .bf16) (xs0 : Vec Ideal S10x3520x128 .fp8e4m3) (f : Fin 8) (k : ℕ) (p : Fin 128) : EReal :=
  if h : k < 2880 then xs0 (ix3 ⟨f.val + 2, by omega⟩ ⟨k, by omega⟩ p) else cellRun i x0 x3 xs0 f k p

/-- The outputs of a later frame after the step. -/
theorem y_apply (hw : ∀ (kt : Fin 3) (o : Fin 96) (k : Fin 1792), 1728 ≤ k.val → xs3 (ix3 kt o k) = (0 : EReal))
    (t : Fin 6) (r : Fin 4) (o : Fin 96) (p : Fin 128) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7 (ix5 0 ⟨t.val + 2, by omega⟩ r o p) =
      (∑ kt : Fin 3, ∑ j : Fin 7, ∑ k : Fin 256, (xs3 (ix3 kt o ⟨256 * j.val + k.val, by omega⟩) : EReal) *
        patch i x0 x3 xs0 ⟨t.val + kt.val, by omega⟩ (576 * r.val + 256 * j.val + k.val) p) * xs4 (ix2 o p) + xs6 (ix2 o p) := by
  unfold out0_B_8
  rw [← List.take_append_drop 72 ((kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7).1), run_y]
  refine read_of_pieces _ _ _ _ _ ?_ ?_
  · intro z hz w e
    rcases List.mem_append.1 hz with hz | hz
    · obtain ⟨t', -, hz⟩ := List.mem_flatMap.1 hz
      obtain ⟨q, -, hz⟩ := List.mem_flatMap.1 hz
      obtain ⟨mb, -, hz⟩ := List.mem_flatMap.1 hz
      obtain ⟨h, -, rfl⟩ := List.mem_map.1 hz
      obtain ⟨o', p', rfl⟩ := y_idx (by omega) (by omega) (by omega) w
      rw [y_emb] at e
      have et : t'.val + 2 = t.val + 2 := congrArg (fun y : S1x8x4x96x128.Idx => (y 1).val) e
      obtain rfl : (⟨2 * q.val + h.val, by omega⟩ : Fin 4) = r := congrArg (fun y : S1x8x4x96x128.Idx => y 2) e
      obtain rfl : t' = t := Fin.ext (by omega)
      obtain rfl : (⟨32 * mb.val + o'.val, by omega⟩ : Fin 96) = o := congrArg (fun y : S1x8x4x96x128.Idx => y 3) e
      obtain rfl : p' = p := congrArg (fun y : S1x8x4x96x128.Idx => y 4) e
      refine (yVal_apply h _ _ _ o' p').trans ?_
      rw [wsxRun_apply, biasRun_apply, chain_apply]
      refine congrArg (· * _ + _) (Finset.sum_congr rfl fun kt _ => Finset.sum_congr rfl fun j _ => ?_)
      rw [prod_apply]
      refine Finset.sum_congr rfl fun k _ => ?_
      rw [lhsRun_apply]
      by_cases hk : 256 * j.val + k.val < 1728
      · refine congrArg (_ * ·) ?_
        have key := tileRun_apply i arg1 harg1 arg4 harg4 arg12 harg12 x0 x3 xs0 ⟨t'.val + kt.val, by omega⟩ j q h k p' (by omega)
        refine Eq.trans ?_ (key.trans ?_)
        · match h with
          | 0 => rfl
          | 1 => rfl
        · show _ = patch i x0 x3 xs0 ⟨t'.val + kt.val, by omega⟩ (576 * (2 * q.val + h.val) + 256 * j.val + k.val) p'
          unfold patch
          by_cases hc : 576 * (2 * q.val + h.val) + 256 * j.val + k.val < 2880
          · rw [if_pos hc, dif_pos hc]
          · rw [if_neg hc, dif_neg hc]
      · rw [hw _ _ _ (by show 1728 ≤ 256 * j.val + k.val; omega), zero_mul, zero_mul]
    · have := List.all_eq_true.1 (y_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 xs0 xs1 xs3 xs4 xs5 xs6 xs7) z hz
      rw [Bool.and_eq_true, decide_eq_true_eq, decide_eq_true_eq] at this
      have h1 := emb_axis z.1 1 this.2 w
      rw [e] at h1
      have : t.val + 2 = z.1.off 1 := h1
      omega
  · have hr : 2 * (⟨r.val / 2, by omega⟩ : Fin 2).val + (⟨r.val % 2, by omega⟩ : Fin 2).val = r.val := by show 2 * (r.val / 2) + r.val % 2 = r.val; omega
    refine ⟨_, List.mem_append_left _ (List.mem_flatMap.2 ⟨t, by revert t; decide, List.mem_flatMap.2 ⟨⟨r.val / 2, by omega⟩, ?_, List.mem_flatMap.2 ⟨⟨o.val / 32, by omega⟩, ?_, List.mem_map.2 ⟨⟨r.val % 2, by omega⟩, ?_, rfl⟩⟩⟩⟩), ?_⟩
    · generalize (⟨r.val / 2, by omega⟩ : Fin 2) = a; revert a; decide
    · generalize (⟨o.val / 32, by omega⟩ : Fin 3) = a; revert a; decide
    · generalize (⟨r.val % 2, by omega⟩ : Fin 2) = a; revert a; decide
    · show _ ∈ (yRect (t.val + 2) (2 * (r.val / 2) + r.val % 2) (32 * (o.val / 32)) (by omega) (by omega) (by omega)).set
      have e : (ix5 0 ⟨t.val + 2, by omega⟩ r o p : S1x8x4x96x128.Idx) = (yRect (t.val + 2) (2 * (r.val / 2) + r.val % 2) (32 * (o.val / 32)) (by omega) (by omega) (by omega)).emb (ix5 0 0 0 ⟨o.val % 32, by omega⟩ p) := by
        rw [y_emb]
        have e1 : (⟨2 * (r.val / 2) + r.val % 2, by omega⟩ : Fin 4) = r := Fin.ext (by show 2 * (r.val / 2) + r.val % 2 = r.val; omega)
        have e2 : (⟨32 * (o.val / 32) + o.val % 32, by omega⟩ : Fin 96) = o := Fin.ext (by show 32 * (o.val / 32) + o.val % 32 = o.val; omega)
        show _ = (ix5 0 ⟨t.val + 2, _⟩ ⟨2 * (r.val / 2) + r.val % 2, _⟩ ⟨32 * (o.val / 32) + o.val % 32, _⟩ p : S1x8x4x96x128.Idx)
        rw [e1, e2]
      rw [e]
      exact emb_mem _ _

end Run

end Cert.KernelIdeal.Conv
-- ==== Proof.First.lean ====
/- What the first grid step leaves in the buffers later steps only read: the weights laid out for the products, the
   columns of scales and of biases. -/
module

public import proofs.«01_k».proof.Proof.Step

@[expose] public section

set_option maxRecDepth 16384

noncomputable section

namespace Cert.KernelIdeal.Conv

open Idealize.ShloMosaic Idealize.ShloMosaic.TcCoe Idealize.ShloMosaic.Tactic
open Cert.KernelIdeal.Gen
open _root_.Conv

section Values

variable {F : FTy → Type} [FloatOps F]

/-- A block of 128 rows of weights, transposed. -/
def wBlk (v : Vec F S1x128x96 .fp8e4m3) : FVec F S1x96x128 .fp8e4m3 :=
  shapeCast S1x96x128 (truncf .fp8e4m3 (transpose S96x128 [1, 0] (extf .bf16 (shapeCast S128x96 v shapeCasts_S1x128x96_S128x96 : FVec F S128x96 .fp8e4m3) bitsLt_fp8e4m3_bf16)
    transposes_S128x96_p1_0_S96x128) bitsLt_fp8e4m3_bf16) shapeCasts_S96x128_S1x96x128

/-- The last 64 rows of weights and 64 rows of zeros, transposed. -/
def wEnd (v : Vec F S1x64x96 .fp8e4m3) : FVec F S1x96x128 .fp8e4m3 :=
  shapeCast S1x96x128 (truncf .fp8e4m3 (transpose S96x128 [1, 0]
    (concatenate S128x96 0 [⟨S64x96, extf .bf16 (shapeCast S64x96 v shapeCasts_S1x64x96_S64x96 : FVec F S64x96 .fp8e4m3) bitsLt_fp8e4m3_bf16⟩,
      ⟨S64x96, broadcast S64x96 (Scalar.ofBits .bf16 0x0000#16 : F .bf16)⟩] concatenates_S64x96_S64x96_S128x96_d0 : FVec F S128x96 .bf16)
    transposes_S128x96_p1_0_S96x128) bitsLt_fp8e4m3_bf16) shapeCasts_S96x128_S1x96x128

/-- A row of 96 numbers as a column, repeated over the lanes. -/
def colVal (v : Vec F S1x96 .f32) : FVec F S96x128 .f32 :=
  transpose S96x128 [1, 0] (broadcastTo S128x96 (shapeCast S1x96 (shapeCast S1x96 v shapeCasts_S1x96_S1x96 : FVec F S1x96 .f32) shapeCasts_S1x96_S1x96 : FVec F S1x96 .f32) broadcasts_S1x96_S128x96)
    transposes_S128x96_p1_0_S96x128

/-- The box of the laid out weights a block of rows goes to. -/
def lhsBox (kt k : ℕ) (hkt : kt < 3) (hk : k + 128 ≤ 1792) : Rect S3x96x1792 :=
  Rect.unit ![kt, 0, k] S1x96x128.size (by intro a; match a with | 0 => (show kt + 1 ≤ 3; omega) | 1 => (show 0 + 96 ≤ 96; omega) | 2 => (show k + 128 ≤ 1792; omega))

/-- The box of the weights a block of rows comes from. -/
def wBox (kt k n : ℕ) (hkt : kt < 3) (hk : k + n ≤ 1728) : Rect S3x1728x96 :=
  Rect.unit ![kt, k, 0] ![1, n, 96] (by intro a; match a with | 0 => (show kt + 1 ≤ 3; omega) | 1 => (show k + n ≤ 1728; omega) | 2 => (show 0 + 96 ≤ 96; omega))

/-- The stores of the laid out weights. -/
def lhsStores (lw : Fin 3 → Fin 13 → Vec F S1x128x96 .fp8e4m3) (le : Fin 3 → Vec F S1x64x96 .fp8e4m3) : List (View.Piece (Elt F) S3x96x1792 .fp8e4m3) :=
  ([2, 1, 0] : List (Fin 3)).flatMap fun kt => ⟨lhsBox kt.val 1664 kt.isLt (by omega), wEnd (le kt)⟩ ::
    ([12, 11, 10, 9, 8, 7, 6, 5, 4, 3, 2, 1, 0] : List (Fin 13)).map fun j => ⟨lhsBox kt.val (128 * j.val) kt.isLt (by omega), wBlk (lw kt j)⟩

end Values

section Table

variable {F : FTy → Type} [FloatOps F]
variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S1x8x4x192x128 .bf16) (harg4 : arg4.IsWhole) (arg5 : Memref sig .tc .vmem S1x2x4x192x128 .fp8e4m3) (harg5 : arg5.IsWhole) (arg6 : Memref sig .tc .vmem S3x1728x96 .fp8e4m3) (harg6 : arg6.IsWhole) (arg7 : Memref sig .tc .vmem S1x96 .f32) (harg7 : arg7.IsWhole) (arg8 : Memref sig .tc .vmem S1x96 .f32) (harg8 : arg8.IsWhole) (arg9 : Memref sig .tc .vmem S1x8x4x96x128 .bf16) (harg9 : arg9.IsWhole) (arg10 : Memref sig .tc .vmem S1x8x4x192x128 .fp8e4m3) (harg10 : arg10.IsWhole) (arg11 : Memref sig .tc .vmem S1x2x4x192x128 .fp8e4m3) (harg11 : arg11.IsWhole) (arg12 : Memref sig .tc .vmem S10x3520x128 .fp8e4m3) (harg12 : arg12.IsWhole) (arg13 : Memref sig .tc .vmem S2x256x256 .fp8e4m3) (harg13 : arg13.IsWhole) (arg14 : Memref sig .tc .vmem S2x4x96x128 .f32) (harg14 : arg14.IsWhole) (arg15 : Memref sig .tc .vmem S3x96x1792 .fp8e4m3) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S2x2x3x32x256 .f32) (harg19 : arg19.IsWhole) (hc0 : cond0_0 i) (x0 : Vec F S1 .f32) (x1 : Vec F S1 .f32) (x2 : Vec F S1 .f32) (x3 : Vec F S1x8x4x192x128 .bf16) (x4 : Vec F S1x2x4x192x128 .fp8e4m3) (x5 : Vec F S3x1728x96 .fp8e4m3) (x6 : Vec F S1x96 .f32) (x7 : Vec F S1x96 .f32)

theorem run_lhs : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.1 = lhsStores
    (fun kt j => arg6.view.readAt (Elt F) (wBox kt.val (128 * j.val) 128 kt.isLt (by omega)).toLoadRect (harg6.unread x5))
    (fun kt => arg6.view.readAt (Elt F) (wBox kt.val 1664 64 kt.isLt (by omega)).toLoadRect (harg6.unread x5)) := by
  sl_kernel_rfl

theorem run_wsx : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.2.1 = [⟨Rect.unit ![0, 0] S96x128.size inb_S96x128_S96x128_0_0,
    shapeCast S96x128 (mulf (colVal (arg7.view.readAt (Elt F) (Rect.unit ![0, 0] S1x96.size inb_S1x96_S1x96_0_0).toLoadRect (harg7.unread x6)))
      (broadcast S96x128 (arg1.view.readAt (Elt F) (Rect.unit ![0] S1.size inb_S1_S1_0).toLoadRect (harg1.unread x0) (Shape.Idx.first (by decide)) : F .f32))) shapeCasts_S96x128_S96x128⟩] := by
  sl_kernel_rfl

theorem run_bias : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7).2.2.2.2.2.2.2.2.1 = [⟨Rect.unit ![0, 0] S96x128.size inb_S96x128_S96x128_0_0,
    shapeCast S96x128 (colVal (arg8.view.readAt (Elt F) (Rect.unit ![0, 0] S1x96.size inb_S1x96_S1x96_0_0).toLoadRect (harg8.unread x7))) shapeCasts_S96x128_S96x128⟩] := by
  sl_kernel_rfl

end Table

section Elements

theorem zero16 : Ideal.ofBits .bf16 0x0000#16 = 0 := by
  simp [Ideal.ofBits, Ideal.ieee]

theorem wBlk_apply (v : Vec Ideal S1x128x96 .fp8e4m3) (o : Fin 96) (k : Fin 128) : wBlk (F := Ideal) v (ix3 0 o k) = v (ix3 0 k o) := by
  pointwise [wBlk]

theorem wEnd_apply (v : Vec Ideal S1x64x96 .fp8e4m3) (o : Fin 96) (k : Fin 128) : wEnd (F := Ideal) v (ix3 0 o k) = if h : k.val < 64 then v (ix3 0 ⟨k.val, h⟩ o) else 0 := by
  pointwise [wEnd, zero16]

theorem colVal_apply (v : Vec Ideal S1x96 .f32) (o : Fin 96) (p : Fin 128) : colVal (F := Ideal) v (ix2 o p) = v (ix2 0 o) := by
  pointwise [colVal]

theorem mem3 (kt : Fin 3) : kt ∈ ([2, 1, 0] : List (Fin 3)) := by revert kt; decide

theorem lhsBox_idx {kt k : ℕ} (hkt : kt < 3) (hk : k + 128 ≤ 1792) (x : (lhsBox kt k hkt hk).shape.Idx) : ∃ (o : Fin 96) (p : Fin 128), x = ix3 0 o p := by
  refine ⟨x 1, x 2, funext fun a => ?_⟩
  match a with
  | 0 => exact Fin.ext (by have h : (x 0).val < 1 := (x 0).isLt; show (x 0).val = 0; omega)
  | 1 => rfl
  | 2 => rfl

theorem lhsBox_emb {kt k : ℕ} (hkt : kt < 3) (hk : k + 128 ≤ 1792) (o : Fin 96) (p : Fin 128) :
    (lhsBox kt k hkt hk).emb (ix3 0 o p) = (ix3 ⟨kt, hkt⟩ o ⟨k + p.val, by omega⟩ : S3x96x1792.Idx) := by
  refine funext fun a => ?_
  match a with
  | 0 => exact Fin.ext (by show kt + 1 * 0 = kt; omega)
  | 1 => exact Fin.ext (by show 0 + 1 * o.val = o.val; omega)
  | 2 => exact Fin.ext (by show k + 1 * p.val = k + p.val; omega)

theorem wBox_emb {kt k n : ℕ} (hkt : kt < 3) (hk : k + n ≤ 1728) (d : Fin n) (o : Fin 96) :
    (wBox kt k n hkt hk).emb (ix3 0 d o) = (ix3 ⟨kt, hkt⟩ ⟨k + d.val, by omega⟩ o : S3x1728x96.Idx) := by
  refine funext fun a => ?_
  match a with
  | 0 => exact Fin.ext (by show kt + 1 * 0 = kt; omega)
  | 1 => exact Fin.ext (by show k + 1 * d.val = k + d.val; omega)
  | 2 => exact Fin.ext (by show 0 + 1 * o.val = o.val; omega)

theorem col_whole (o : Fin 96) (p : Fin 128) : (Rect.unit ![0, 0] S96x128.size inb_S96x128_S96x128_0_0).emb (ix2 o p) = (ix2 o p : S96x128.Idx) := by
  refine funext fun a => ?_
  match a with
  | 0 => exact Fin.ext (by show 0 + 1 * o.val = o.val; omega)
  | 1 => exact Fin.ext (by show 0 + 1 * p.val = p.val; omega)

theorem row_whole (o : Fin 96) : (Rect.unit ![0, 0] S1x96.size inb_S1x96_S1x96_0_0).emb (ix2 0 o) = (ix2 0 o : S1x96.Idx) := by
  refine funext fun a => ?_
  match a with
  | 0 => rfl
  | 1 => exact Fin.ext (by show 0 + 1 * o.val = o.val; omega)

/-- The laid out weights hold each weight where the products look for it, and zeros behind. -/
theorem lhsStores_read (w : Vec Ideal S3x1728x96 .fp8e4m3) (lw : Fin 3 → Fin 13 → Vec Ideal S1x128x96 .fp8e4m3) (le : Fin 3 → Vec Ideal S1x64x96 .fp8e4m3)
    (hw : ∀ kt j k o, lw kt j (ix3 0 k o) = w (ix3 kt ⟨128 * j.val + k.val, by omega⟩ o)) (he : ∀ kt k o, le kt (ix3 0 k o) = w (ix3 kt ⟨1664 + k.val, by omega⟩ o))
    {sig' : RefSig} {κ : Kind} {sp : Space} (v : View sig' κ sp S3x96x1792 .fp8e4m3) (g : v.ty.Contents (Elt Ideal)) (kt : Fin 3) (o : Fin 96) (k : Fin 1792) :
    v.read (Elt Ideal) (v.writes (Elt Ideal) g (lhsStores (F := Ideal) lw le)) (ix3 kt o k) = if h : k.val < 1728 then w (ix3 kt ⟨k.val, h⟩ o) else (0 : EReal) := by
  refine read_of_pieces v g _ _ _ ?_ ?_
  · intro q hq z e
    obtain ⟨kt', -, hq⟩ := List.mem_flatMap.1 hq
    rcases List.mem_cons.1 hq with rfl | hq
    · obtain ⟨o', p, rfl⟩ := lhsBox_idx (by omega) (by omega) z
      rw [lhsBox_emb] at e
      obtain rfl : kt' = kt := congrArg (fun y : S3x96x1792.Idx => y 0) e
      obtain rfl : o' = o := congrArg (fun y : S3x96x1792.Idx => y 1) e
      obtain rfl : (⟨1664 + p.val, by omega⟩ : Fin 1792) = k := congrArg (fun y : S3x96x1792.Idx => y 2) e
      refine (wEnd_apply (le kt') o' p).trans ?_
      by_cases h : p.val < 64
      · rw [dif_pos h, he, dif_pos (by show 1664 + p.val < 1728; omega)]
      · rw [dif_neg h, dif_neg (by show ¬ 1664 + p.val < 1728; omega)]
    · obtain ⟨j, -, rfl⟩ := List.mem_map.1 hq
      obtain ⟨o', p, rfl⟩ := lhsBox_idx (by omega) (by omega) z
      rw [lhsBox_emb] at e
      obtain rfl : kt' = kt := congrArg (fun y : S3x96x1792.Idx => y 0) e
      obtain rfl : o' = o := congrArg (fun y : S3x96x1792.Idx => y 1) e
      obtain rfl : (⟨128 * j.val + p.val, by omega⟩ : Fin 1792) = k := congrArg (fun y : S3x96x1792.Idx => y 2) e
      refine (wBlk_apply (lw kt' j) o' p).trans ?_
      rw [hw, dif_pos (by show 128 * j.val + p.val < 1728; omega)]
  · have e0 : ∀ (n : ℕ) (hn : n + 128 ≤ 1792), n ≤ k.val → k.val < n + 128 → (ix3 kt o k : S3x96x1792.Idx) ∈ (lhsBox kt.val n kt.isLt hn).set := by
      intro n hn h1 h2
      have e1 : (⟨n + (k.val - n), by omega⟩ : Fin 1792) = k := Fin.ext (by show n + (k.val - n) = k.val; omega)
      have e2 : (lhsBox kt.val n kt.isLt hn).emb (ix3 0 o ⟨k.val - n, by omega⟩) = (ix3 kt o k : S3x96x1792.Idx) := by
        rw [lhsBox_emb]
        show (ix3 kt o ⟨n + (k.val - n), _⟩ : S3x96x1792.Idx) = _
        rw [e1]
      rw [← e2]
      exact emb_mem _ _
    by_cases h : 1664 ≤ k.val
    · exact ⟨_, List.mem_flatMap.2 ⟨kt, mem3 kt, List.mem_cons_self⟩, e0 1664 (by omega) h (by omega)⟩
    · refine ⟨_, List.mem_flatMap.2 ⟨kt, mem3 kt, List.mem_cons_of_mem _ (List.mem_map.2 ⟨⟨k.val / 128, by omega⟩, ?_, rfl⟩)⟩, e0 (128 * (k.val / 128)) (by omega) (by omega) (by omega)⟩
      generalize (⟨k.val / 128, by omega⟩ : Fin 13) = a; revert a; decide

end Elements

section Run

variable (c : Dev nD) (i : grid0.Coords) (arg1 : Memref sig .tc .smem S1 .f32) (harg1 : arg1.IsWhole) (arg2 : Memref sig .tc .smem S1 .f32) (harg2 : arg2.IsWhole) (arg3 : Memref sig .tc .smem S1 .f32) (harg3 : arg3.IsWhole) (arg4 : Memref sig .tc .vmem S1x8x4x192x128 .bf16) (harg4 : arg4.IsWhole) (arg5 : Memref sig .tc .vmem S1x2x4x192x128 .fp8e4m3) (harg5 : arg5.IsWhole) (arg6 : Memref sig .tc .vmem S3x1728x96 .fp8e4m3) (harg6 : arg6.IsWhole) (arg7 : Memref sig .tc .vmem S1x96 .f32) (harg7 : arg7.IsWhole) (arg8 : Memref sig .tc .vmem S1x96 .f32) (harg8 : arg8.IsWhole) (arg9 : Memref sig .tc .vmem S1x8x4x96x128 .bf16) (harg9 : arg9.IsWhole) (arg10 : Memref sig .tc .vmem S1x8x4x192x128 .fp8e4m3) (harg10 : arg10.IsWhole) (arg11 : Memref sig .tc .vmem S1x2x4x192x128 .fp8e4m3) (harg11 : arg11.IsWhole) (arg12 : Memref sig .tc .vmem S10x3520x128 .fp8e4m3) (harg12 : arg12.IsWhole) (arg13 : Memref sig .tc .vmem S2x256x256 .fp8e4m3) (harg13 : arg13.IsWhole) (arg14 : Memref sig .tc .vmem S2x4x96x128 .f32) (harg14 : arg14.IsWhole) (arg15 : Memref sig .tc .vmem S3x96x1792 .fp8e4m3) (harg15 : arg15.IsWhole) (arg16 : Memref sig .tc .vmem S96x128 .f32) (harg16 : arg16.IsWhole) (arg17 : Memref sig .tc .vmem S96x128 .f32) (harg17 : arg17.IsWhole) (arg18 : Memref sig .tc .vmem S96x128 .f32) (harg18 : arg18.IsWhole) (arg19 : Memref sig .tc .vmem S2x2x3x32x256 .f32) (harg19 : arg19.IsWhole) (hc0 : cond0_0 i) (x0 : Vec Ideal S1 .f32) (x1 : Vec Ideal S1 .f32) (x2 : Vec Ideal S1 .f32) (x3 : Vec Ideal S1x8x4x192x128 .bf16) (x4 : Vec Ideal S1x2x4x192x128 .fp8e4m3) (x5 : Vec Ideal S3x1728x96 .fp8e4m3) (x6 : Vec Ideal S1x96 .f32) (x7 : Vec Ideal S1x96 .f32)

/-- The laid out weights after the first step. -/
theorem lhs_apply (kt : Fin 3) (o : Fin 96) (k : Fin 1792) :
    sout0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 (ix3 kt o k) = if h : k.val < 1728 then x5 (ix3 kt ⟨k.val, h⟩ o) else (0 : EReal) := by
  unfold sout0_A_3
  rw [run_lhs]
  exact lhsStores_read x5 _ _
    (fun kt j k o => (load_apply arg6 harg6 (wBox kt.val (128 * j.val) 128 kt.isLt (by omega)) x5 (ix3 0 k o)).trans (congrArg x5 (wBox_emb kt.isLt (by omega) k o)))
    (fun kt k o => (load_apply arg6 harg6 (wBox kt.val 1664 64 kt.isLt (by omega)) x5 (ix3 0 k o)).trans (congrArg x5 (wBox_emb kt.isLt (by omega) k o))) _ _ kt o k

theorem scale_load : arg1.view.readAt (Elt Ideal) (Rect.unit ![0] S1.size inb_S1_S1_0).toLoadRect (harg1.unread x0) (Shape.Idx.first (by decide)) = x0 (ix1 0) :=
  (load_apply arg1 harg1 (Rect.unit ![0] S1.size inb_S1_S1_0) x0 _).trans (congrArg x0 (one_idx _ _))

/-- The column of scales after the first step. -/
theorem wsx_apply (o : Fin 96) (p : Fin 128) : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 (ix2 o p) = x6 (ix2 0 o) * x0 (ix1 0) := by
  unfold sout0_A_4
  rw [run_wsx, scale_load]
  refine read_of_pieces _ _ _ _ _ ?_ ⟨_, List.mem_singleton.2 rfl, by rw [← col_whole o p]; exact emb_mem _ _⟩
  intro q hq z e
  obtain rfl := List.mem_singleton.1 hq
  obtain rfl : z = ix2 o p := (Rect.unit ![0, 0] S96x128.size inb_S96x128_S96x128_0_0).emb.injective (e.trans (col_whole o p).symm)
  refine (congrFun (shapeCast_self (mulf (colVal (F := Ideal) (arg7.view.readAt (Elt Ideal) (Rect.unit ![0, 0] S1x96.size inb_S1x96_S1x96_0_0).toLoadRect (harg7.unread x6))) (broadcast S96x128 (x0 (ix1 0) : Ideal .f32))) shapeCasts_S96x128_S96x128) (ix2 o p)).trans ?_
  refine congrArg (· * _) ((colVal_apply _ o p).trans ?_)
  exact (load_apply arg7 harg7 (Rect.unit ![0, 0] S1x96.size inb_S1x96_S1x96_0_0) x6 (ix2 0 o)).trans (congrArg x6 (row_whole o))

/-- The column of biases after the first step. -/
theorem bias_apply (o : Fin 96) (p : Fin 128) : sout0_A_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 (ix2 o p) = x7 (ix2 0 o) := by
  unfold sout0_A_6
  rw [run_bias]
  refine read_of_pieces _ _ _ _ _ ?_ ⟨_, List.mem_singleton.2 rfl, by rw [← col_whole o p]; exact emb_mem _ _⟩
  intro q hq z e
  obtain rfl := List.mem_singleton.1 hq
  obtain rfl : z = ix2 o p := (Rect.unit ![0, 0] S96x128.size inb_S96x128_S96x128_0_0).emb.injective (e.trans (col_whole o p).symm)
  refine (congrFun (shapeCast_self (colVal (F := Ideal) (arg8.view.readAt (Elt Ideal) (Rect.unit ![0, 0] S1x96.size inb_S1x96_S1x96_0_0).toLoadRect (harg8.unread x7))) shapeCasts_S96x128_S96x128) (ix2 o p)).trans ?_
  refine (colVal_apply _ o p).trans ?_
  exact (load_apply arg8 harg8 (Rect.unit ![0, 0] S1x96.size inb_S1x96_S1x96_0_0) x7 (ix2 0 o)).trans (congrArg x7 (row_whole o))

end Run

end Cert.KernelIdeal.Conv
-- ==== Proof.Blocks.lean ====
/- Where the blocks of the grid steps lie in the arrays, and what the input blocks hold in terms of the arguments. -/
module

public import proofs.«01_k».proof.Proof.First
public import Idealize.ShloMosaic.Lib.Pipeline.ValueKit
public import Idealize.ShloMosaic.Lib.Pipeline.ValueKit.Tiles

@[expose] public section

set_option maxRecDepth 16384

noncomputable section

namespace Cert.KernelIdeal.Conv

open Idealize.ShloMosaic Idealize.ShloMosaic.TcCoe Idealize.ShloMosaic.Tactic
open Cert.KernelIdeal.Gen
open _root_.Conv

/-! ## Block indices -/

/-- The group of rows a step loads: one behind the step, held at the last. -/
def grp (t : ℕ) : ℕ := min (t - 1) 134

/-- The group of rows a step computes outputs of. -/
def outGrp (t : ℕ) : ℕ := min (t - 2) 134

theorem grp_lt (t : ℕ) : grp t < 135 := by unfold grp; omega
theorem outGrp_lt (t : ℕ) : outGrp t < 135 := by unfold outGrp; omega

theorem idx3 : ∀ t : Fin cfg0.N, win0_3.index t (0 : Fin 5) = grp t.val / 45 ∧ win0_3.index t (1 : Fin 5) = 0 ∧ win0_3.index t (2 : Fin 5) = grp t.val % 45
    ∧ win0_3.index t (3 : Fin 5) = 0 ∧ win0_3.index t (4 : Fin 5) = 0 :=
  (by decide +kernel : ∀ t : Fin grid0.N, _)

theorem idx8 : ∀ t : Fin cfg0.N, win0_8.index t (0 : Fin 5) = outGrp t.val / 45 ∧ win0_8.index t (1 : Fin 5) = 0 ∧ win0_8.index t (2 : Fin 5) = outGrp t.val % 45
    ∧ win0_8.index t (3 : Fin 5) = 0 ∧ win0_8.index t (4 : Fin 5) = 0 :=
  (by decide +kernel : ∀ t : Fin grid0.N, _)

theorem idx9 : ∀ t : Fin cfg0.N, win0_9.index t (0 : Fin 5) = grp t.val / 45 ∧ win0_9.index t (1 : Fin 5) = 0 ∧ win0_9.index t (2 : Fin 5) = grp t.val % 45
    ∧ win0_9.index t (3 : Fin 5) = 0 ∧ win0_9.index t (4 : Fin 5) = 0 :=
  (by decide +kernel : ∀ t : Fin grid0.N, _)

theorem idx10 : ∀ t : Fin cfg0.N, win0_10.index t (0 : Fin 5) = grp t.val / 45 ∧ win0_10.index t (1 : Fin 5) = 0 ∧ win0_10.index t (2 : Fin 5) = grp t.val % 45
    ∧ win0_10.index t (3 : Fin 5) = 0 ∧ win0_10.index t (4 : Fin 5) = 0 :=
  (by decide +kernel : ∀ t : Fin grid0.N, _)

theorem idx0 : ∀ t : Fin cfg0.N, win0_0.index t (0 : Fin 1) = 0 ∧ win0_1.index t (0 : Fin 1) = 0 :=
  (by decide +kernel : ∀ t : Fin grid0.N, _)

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem idx67 : ∀ t : Fin cfg0.N, win0_6.index t (0 : Fin 2) = 0 ∧ win0_6.index t (1 : Fin 2) = 0 ∧ win0_7.index t (0 : Fin 2) = 0 ∧ win0_7.index t (1 : Fin 2) = 0 :=
  (by decide +kernel : ∀ t : Fin grid0.N, _)

/-- Whether a step's new block is the first of an image. -/
theorem edge_eq : ∀ t : Fin cfg0.N, 1 ≤ t.val → edgeRun (grid0.coords t) = if (t.val - 1) % 45 = 0 then 1#1 else 0#1 :=
  (by decide +kernel : ∀ t : Fin grid0.N, 1 ≤ t.val → edgeRun (grid0.coords t) = if (t.val - 1) % 45 = 0 then 1#1 else 0#1)

theorem flush8_two : ∀ t : Fin cfg0.N, (cfg0.win 8).flush t = true → 2 ≤ t.val :=
  (by decide +kernel : ∀ t : Fin grid0.N, win0_8.flush t = true → 2 ≤ t.val)

theorem flush9_one : ∀ t : Fin cfg0.N, (cfg0.win 9).flush t = true → 1 ≤ t.val :=
  (by decide +kernel : ∀ t : Fin grid0.N, win0_9.flush t = true → 1 ≤ t.val)

theorem flush10_one : ∀ t : Fin cfg0.N, (cfg0.win 10).flush t = true → 1 ≤ t.val :=
  (by decide +kernel : ∀ t : Fin grid0.N, win0_10.flush t = true → 1 ≤ t.val)

theorem covers8 : (cfg0.win 8).Covers := by decide +kernel
theorem covers9 : (cfg0.win 9).Covers := by decide +kernel
theorem covers10 : (cfg0.win 10).Covers := by decide +kernel

/-! ## Input blocks -/

variable (m : (ℓ : Loc nD τ sig) → Buf (Elt Ideal) ℓ) (c : Dev nD)

theorem V_v1 : V m c main_v1 = transpose S3x8x180x192x128 [0, 1, 2, 4, 3] (m ((c : Thread nD τ).loc main_arg2)) transposes_S3x8x180x128x192_S3x8x180x192x128_0_1_2_4_3 := rfl
theorem V_v3 : V m c main_v3 = shapeCast S3x1728x96 (m ((c : Thread nD τ).loc main_arg5)) shapeCasts_S3x3x3x192x96_S3x1728x96 := rfl
theorem V_v4 : V m c main_v4 = shapeCast S1x96 (m ((c : Thread nD τ).loc main_arg6)) shapeCasts_S96_S1x96 := rfl
theorem V_v5 : V m c main_v5 = shapeCast S1x96 (m ((c : Thread nD τ).loc main_arg7)) shapeCasts_S96_S1x96 := rfl

theorem emb3 (t : Fin cfg0.N) (f : Fin 8) (r : Fin 4) (d : Fin 192) (p : Fin 128) :
    ((cfg0.win 3).blk t).view.emb (ix5 0 f r d p : S1x8x4x192x128.Idx) = (ix5 ⟨grp t.val / 45, by have := grp_lt t.val; omega⟩ f ⟨4 * (grp t.val % 45) + r.val, by omega⟩ d p : S3x8x180x192x128.Idx) := by
  obtain ⟨e0, e1, e2, e3, e4⟩ := idx3 t
  funext a; apply Fin.ext
  match a with
  | ⟨0, _⟩ => show win0_3.index t (0 : Fin 5) * 1 + 1 * 0 = grp t.val / 45; omega
  | ⟨1, _⟩ => show win0_3.index t (1 : Fin 5) * 8 + 1 * f.val = f.val; omega
  | ⟨2, _⟩ => show win0_3.index t (2 : Fin 5) * 4 + 1 * r.val = 4 * (grp t.val % 45) + r.val; omega
  | ⟨3, _⟩ => show win0_3.index t (3 : Fin 5) * 192 + 1 * d.val = d.val; omega
  | ⟨4, _⟩ => show win0_3.index t (4 : Fin 5) * 128 + 1 * p.val = p.val; omega

theorem tr_apply (v : Vec Ideal S3x8x180x128x192 .bf16) (b : Fin 3) (f : Fin 8) (r : Fin 180) (d : Fin 192) (p : Fin 128) :
    transpose S3x8x180x192x128 [0, 1, 2, 4, 3] v transposes_S3x8x180x128x192_S3x8x180x192x128_0_1_2_4_3 (ix5 b f r d p) = v (ix5 b f r p d) := by
  pointwise []

/-- The block of frames a step loads. -/
theorem x_blk (t : Fin cfg0.N) (f : Fin 8) (r : Fin 4) (d : Fin 192) (p : Fin 128) :
    (iblk m c 3 t : Vec Ideal S1x8x4x192x128 .bf16) (ix5 0 f r d p) = (m ((c : Thread nD τ).loc main_arg2) : Vec Ideal S3x8x180x128x192 .bf16)
      (ix5 ⟨grp t.val / 45, by have := grp_lt t.val; omega⟩ f ⟨4 * (grp t.val % 45) + r.val, by omega⟩ p d) := by
  show V m c main_v1 (((cfg0.win 3).blk t).view.emb (ix5 0 f r d p : S1x8x4x192x128.Idx)) = _
  rw [emb3, V_v1]
  exact tr_apply _ _ _ _ _ _

/-- The scale of the frames. -/
theorem xs_blk (t : Fin cfg0.N) (i j : S1.Idx) : (iblk m c 0 t : Vec Ideal S1 .f32) i = (m ((c : Thread nD τ).loc main_arg0) : Vec Ideal S1 .f32) j := by
  show V m c main_arg0 (((cfg0.win 0).blk t).view.emb i) = _
  rw [V_main_arg0]
  exact congrArg _ (one_idx _ _)

/-- The scale of the new cache. -/
theorem ns_blk (t : Fin cfg0.N) (i j : S1.Idx) : (iblk m c 1 t : Vec Ideal S1 .f32) i = (m ((c : Thread nD τ).loc main_arg1) : Vec Ideal S1 .f32) j := by
  show V m c main_arg1 (((cfg0.win 1).blk t).view.emb i) = _
  rw [V_main_arg1]
  exact congrArg _ (one_idx _ _)

theorem emb5 (t : Fin cfg0.N) (z : S3x1728x96.Idx) : ((cfg0.win 5).blk t).view.emb z = z := by
  obtain ⟨e0, e1, e2⟩ := idx5 t
  funext a; apply Fin.ext
  match a with
  | ⟨0, _⟩ => show win0_5.index t (0 : Fin 3) * 3 + 1 * (z 0).val = (z 0).val; omega
  | ⟨1, _⟩ => show win0_5.index t (1 : Fin 3) * 1728 + 1 * (z 1).val = (z 1).val; omega
  | ⟨2, _⟩ => show win0_5.index t (2 : Fin 3) * 96 + 1 * (z 2).val = (z 2).val; omega

theorem w_cast (v : Vec Ideal S3x3x3x192x96 .fp8e4m3) (kt kh kw : Fin 3) (d : Fin 192) (o : Fin 96) :
    shapeCast S3x1728x96 v shapeCasts_S3x3x3x192x96_S3x1728x96 (ix3 kt ⟨576 * kh.val + 192 * kw.val + d.val, by omega⟩ o) = v (ix5 kt kh kw d o) := by
  pointwise []

/-- The weights. -/
theorem w_blk (t : Fin cfg0.N) (kt kh kw : Fin 3) (d : Fin 192) (o : Fin 96) :
    (iblk m c 5 t : Vec Ideal S3x1728x96 .fp8e4m3) (ix3 kt ⟨576 * kh.val + 192 * kw.val + d.val, by omega⟩ o) = (m ((c : Thread nD τ).loc main_arg5) : Vec Ideal S3x3x3x192x96 .fp8e4m3) (ix5 kt kh kw d o) := by
  show V m c main_v3 (((cfg0.win 5).blk t).view.emb (ix3 kt ⟨576 * kh.val + 192 * kw.val + d.val, _⟩ o : S3x1728x96.Idx)) = _
  rw [emb5, V_v3]
  exact w_cast _ _ _ _ _ _

theorem emb6 (t : Fin cfg0.N) (z : S1x96.Idx) : ((cfg0.win 6).blk t).view.emb z = z := by
  obtain ⟨e0, e1, -, -⟩ := idx67 t
  funext a; apply Fin.ext
  match a with
  | ⟨0, _⟩ => show win0_6.index t (0 : Fin 2) * 1 + 1 * (z 0).val = (z 0).val; omega
  | ⟨1, _⟩ => show win0_6.index t (1 : Fin 2) * 96 + 1 * (z 1).val = (z 1).val; omega

theorem emb7 (t : Fin cfg0.N) (z : S1x96.Idx) : ((cfg0.win 7).blk t).view.emb z = z := by
  obtain ⟨-, -, e0, e1⟩ := idx67 t
  funext a; apply Fin.ext
  match a with
  | ⟨0, _⟩ => show win0_7.index t (0 : Fin 2) * 1 + 1 * (z 0).val = (z 0).val; omega
  | ⟨1, _⟩ => show win0_7.index t (1 : Fin 2) * 96 + 1 * (z 1).val = (z 1).val; omega

theorem row_cast (v : Vec Ideal S96 .f32) (o : Fin 96) : shapeCast S1x96 v shapeCasts_S96_S1x96 (ix2 0 o) = v (ix1 o) := by
  pointwise []

/-- The channels' scales. -/
theorem ws_blk (t : Fin cfg0.N) (o : Fin 96) : (iblk m c 6 t : Vec Ideal S1x96 .f32) (ix2 0 o) = (m ((c : Thread nD τ).loc main_arg6) : Vec Ideal S96 .f32) (ix1 o) := by
  show V m c main_v4 (((cfg0.win 6).blk t).view.emb (ix2 0 o : S1x96.Idx)) = _
  rw [emb6, V_v4]
  exact row_cast _ _

/-- The channels' biases. -/
theorem bias_blk (t : Fin cfg0.N) (o : Fin 96) : (iblk m c 7 t : Vec Ideal S1x96 .f32) (ix2 0 o) = (m ((c : Thread nD τ).loc main_arg7) : Vec Ideal S96 .f32) (ix1 o) := by
  show V m c main_v5 (((cfg0.win 7).blk t).view.emb (ix2 0 o : S1x96.Idx)) = _
  rw [emb7, V_v5]
  exact row_cast _ _

/-! ## Output blocks -/

theorem emb8 (t : Fin cfg0.N) (f : Fin 8) (r : Fin 4) (o : Fin 96) (p : Fin 128) :
    ((cfg0.win 8).blk t).view.emb (ix5 0 f r o p : S1x8x4x96x128.Idx) = (ix5 ⟨outGrp t.val / 45, by have := outGrp_lt t.val; omega⟩ f ⟨4 * (outGrp t.val % 45) + r.val, by omega⟩ o p : S3x8x180x96x128.Idx) := by
  obtain ⟨e0, e1, e2, e3, e4⟩ := idx8 t
  funext a; apply Fin.ext
  match a with
  | ⟨0, _⟩ => show win0_8.index t (0 : Fin 5) * 1 + 1 * 0 = outGrp t.val / 45; omega
  | ⟨1, _⟩ => show win0_8.index t (1 : Fin 5) * 8 + 1 * f.val = f.val; omega
  | ⟨2, _⟩ => show win0_8.index t (2 : Fin 5) * 4 + 1 * r.val = 4 * (outGrp t.val % 45) + r.val; omega
  | ⟨3, _⟩ => show win0_8.index t (3 : Fin 5) * 96 + 1 * o.val = o.val; omega
  | ⟨4, _⟩ => show win0_8.index t (4 : Fin 5) * 128 + 1 * p.val = p.val; omega

theorem emb9 (t : Fin cfg0.N) (f : Fin 8) (r : Fin 4) (d : Fin 192) (p : Fin 128) :
    ((cfg0.win 9).blk t).view.emb (ix5 0 f r d p : S1x8x4x192x128.Idx) = (ix5 ⟨grp t.val / 45, by have := grp_lt t.val; omega⟩ f ⟨4 * (grp t.val % 45) + r.val, by omega⟩ d p : S3x8x180x192x128.Idx) := by
  obtain ⟨e0, e1, e2, e3, e4⟩ := idx9 t
  funext a; apply Fin.ext
  match a with
  | ⟨0, _⟩ => show win0_9.index t (0 : Fin 5) * 1 + 1 * 0 = grp t.val / 45; omega
  | ⟨1, _⟩ => show win0_9.index t (1 : Fin 5) * 8 + 1 * f.val = f.val; omega
  | ⟨2, _⟩ => show win0_9.index t (2 : Fin 5) * 4 + 1 * r.val = 4 * (grp t.val % 45) + r.val; omega
  | ⟨3, _⟩ => show win0_9.index t (3 : Fin 5) * 192 + 1 * d.val = d.val; omega
  | ⟨4, _⟩ => show win0_9.index t (4 : Fin 5) * 128 + 1 * p.val = p.val; omega

theorem emb10 (t : Fin cfg0.N) (f : Fin 2) (r : Fin 4) (d : Fin 192) (p : Fin 128) :
    ((cfg0.win 10).blk t).view.emb (ix5 0 f r d p : S1x2x4x192x128.Idx) = (ix5 ⟨grp t.val / 45, by have := grp_lt t.val; omega⟩ f ⟨4 * (grp t.val % 45) + r.val, by omega⟩ d p : S3x2x180x192x128.Idx) := by
  obtain ⟨e0, e1, e2, e3, e4⟩ := idx10 t
  funext a; apply Fin.ext
  match a with
  | ⟨0, _⟩ => show win0_10.index t (0 : Fin 5) * 1 + 1 * 0 = grp t.val / 45; omega
  | ⟨1, _⟩ => show win0_10.index t (1 : Fin 5) * 2 + 1 * f.val = f.val; omega
  | ⟨2, _⟩ => show win0_10.index t (2 : Fin 5) * 4 + 1 * r.val = 4 * (grp t.val % 45) + r.val; omega
  | ⟨3, _⟩ => show win0_10.index t (3 : Fin 5) * 192 + 1 * d.val = d.val; omega
  | ⟨4, _⟩ => show win0_10.index t (4 : Fin 5) * 128 + 1 * p.val = p.val; omega

end Cert.KernelIdeal.Conv
-- ==== Proof.States.lean ====
/- What the buffers hold after each grid step, in terms of the arguments: the buffers only read keep what the first step left, and
   the padded codes are those of the group of rows the step loaded. -/
module

public import proofs.«01_k».proof.Proof.Blocks

@[expose] public section

set_option maxRecDepth 16384

noncomputable section

namespace Cert.KernelIdeal.Conv

open Idealize.ShloMosaic Idealize.ShloMosaic.TcCoe Idealize.ShloMosaic.Tactic
open Cert.KernelIdeal.Gen
open _root_.Conv

variable (m : (ℓ : Loc nD τ sig) → Buf (Elt Ideal) ℓ) (c : Dev nD)

theorem n_137 : cfg0.N = 137 := by decide +kernel

/-! ## Arguments -/

abbrev argX : Vec Ideal S3x8x180x128x192 .bf16 := m ((c : Thread nD τ).loc main_arg2)
abbrev argW : Vec Ideal S3x3x3x192x96 .fp8e4m3 := m ((c : Thread nD τ).loc main_arg5)
abbrev argXs : EReal := (m ((c : Thread nD τ).loc main_arg0) : Vec Ideal S1 .f32) (ix1 0)
abbrev argNs : EReal := (m ((c : Thread nD τ).loc main_arg1) : Vec Ideal S1 .f32) (ix1 0)
abbrev argWs : Vec Ideal S96 .f32 := m ((c : Thread nD τ).loc main_arg6)
abbrev argB : Vec Ideal S96 .f32 := m ((c : Thread nD τ).loc main_arg7)

/-! ## One step -/

theorem later {n : ℕ} (hn : n < 137) (h : 1 ≤ n) : ¬ n % 137 = 0 := by omega

theorem step_px (t : Fin cfg0.N) (h1 : 1 ≤ t.val) (f : Fin 8) (k : Fin 3520) (p : Fin 128) (hk : k.val < 3456) :
    (outsAt0 m c t.val t.isLt).2.2.2.1 (ix3 ⟨f.val + 2, by omega⟩ k p) =
      cellRun (grid0.coords t) (iblk m c 0 t) (iblk m c 3 t) (outsAt0 m c (t.val - 1) (Nat.lt_of_le_of_lt (Nat.sub_le _ _) t.isLt)).2.2.2.1 f k.val p := by
  rw [outsAt0_B m c t (later (n_137 ▸ t.isLt) h1)]
  dsimp only
  exact px_apply (h := hk) ..

theorem step_codes (t : Fin cfg0.N) (h1 : 1 ≤ t.val) (f : Fin 8) (r : Fin 4) (d : Fin 192) (p : Fin 128) :
    (outsAt0 m c t.val t.isLt).2.1 (ix5 0 f r d p) = code ((iblk m c 3 t : Vec Ideal S1x8x4x192x128 .bf16) (ix5 0 f r d p)) ((iblk m c 0 t : Vec Ideal S1 .f32) (ix1 0)) := by
  rw [outsAt0_B m c t (later (n_137 ▸ t.isLt) h1)]
  dsimp only
  exact codes_apply ..

theorem step_cache (t : Fin cfg0.N) (h1 : 1 ≤ t.val) (f : Fin 2) (r : Fin 4) (d : Fin 192) (p : Fin 128) :
    (outsAt0 m c t.val t.isLt).2.2.1 (ix5 0 f r d p) = code ((iblk m c 3 t : Vec Ideal S1x8x4x192x128 .bf16) (ix5 0 ⟨6 + f.val, by omega⟩ r d p)) ((iblk m c 1 t : Vec Ideal S1 .f32) (ix1 0)) := by
  rw [outsAt0_B m c t (later (n_137 ▸ t.isLt) h1)]
  dsimp only
  exact cache_apply ..

theorem step_y (t : Fin cfg0.N) (h1 : 1 ≤ t.val)
    (hw : ∀ kt o k, 1728 ≤ k.val → ((outsAt0 m c (t.val - 1) (Nat.lt_of_le_of_lt (Nat.sub_le _ _) t.isLt)).2.2.2.2.2.1 : Vec Ideal S3x96x1792 .fp8e4m3) (ix3 kt o k) = 0)
    (f : Fin 6) (r : Fin 4) (o : Fin 96) (p : Fin 128) :
    (outsAt0 m c t.val t.isLt).1 (ix5 0 ⟨f.val + 2, by omega⟩ r o p) =
      (∑ kt : Fin 3, ∑ j : Fin 7, ∑ k : Fin 256,
        ((outsAt0 m c (t.val - 1) (Nat.lt_of_le_of_lt (Nat.sub_le _ _) t.isLt)).2.2.2.2.2.1 : Vec Ideal S3x96x1792 .fp8e4m3) (ix3 kt o ⟨256 * j.val + k.val, by omega⟩) *
          patch (grid0.coords t) (iblk m c 0 t) (iblk m c 3 t) (outsAt0 m c (t.val - 1) (Nat.lt_of_le_of_lt (Nat.sub_le _ _) t.isLt)).2.2.2.1
            ⟨f.val + kt.val, by omega⟩ (576 * r.val + 256 * j.val + k.val) p) *
        ((outsAt0 m c (t.val - 1) (Nat.lt_of_le_of_lt (Nat.sub_le _ _) t.isLt)).2.2.2.2.2.2.1 : Vec Ideal S96x128 .f32) (ix2 o p) +
        ((outsAt0 m c (t.val - 1) (Nat.lt_of_le_of_lt (Nat.sub_le _ _) t.isLt)).2.2.2.2.2.2.2.2.1 : Vec Ideal S96x128 .f32) (ix2 o p) := by
  rw [outsAt0_B m c t (later (n_137 ▸ t.isLt) h1)]
  dsimp only
  exact y_apply (hw := hw) ..

/-! ## Buffers only read -/

theorem held_lhs : ∀ (n : ℕ) (hn : n < cfg0.N) (kt : Fin 3) (o : Fin 96) (k : Fin 1792),
    ((outsAt0 m c n hn).2.2.2.2.2.1 : Vec Ideal S3x96x1792 .fp8e4m3) (ix3 kt o k) =
      if h : k.val < 1728 then (iblk m c 5 ⟨0, by rw [n_137]; omega⟩ : Vec Ideal S3x1728x96 .fp8e4m3) (ix3 kt ⟨k.val, h⟩ o) else (0 : EReal) := by
  intro n
  induction n with
  | zero =>
    intro hn kt o k
    rw [outsAt0_A m c ⟨0, hn⟩ rfl]
    dsimp only
    exact lhs_apply ..
  | succ n ih =>
    intro hn kt o k
    rw [outsAt0_B m c ⟨n + 1, hn⟩ (later (n := n + 1) (n_137 ▸ hn) (Nat.succ_pos n))]
    dsimp only
    exact ih (Nat.lt_of_succ_lt hn) kt o k

theorem held_scale : ∀ (n : ℕ) (hn : n < cfg0.N) (o : Fin 96) (p : Fin 128),
    ((outsAt0 m c n hn).2.2.2.2.2.2.1 : Vec Ideal S96x128 .f32) (ix2 o p) = argWs m c (ix1 o) * argXs m c := by
  intro n
  induction n with
  | zero =>
    intro hn o p
    rw [outsAt0_A m c ⟨0, hn⟩ rfl]
    dsimp only
    exact (wsx_apply ..).trans (congrArg₂ (fun a b : EReal => a * b) (ws_blk m c _ o) (xs_blk m c _ _ _))
  | succ n ih =>
    intro hn o p
    rw [outsAt0_B m c ⟨n + 1, hn⟩ (later (n := n + 1) (n_137 ▸ hn) (Nat.succ_pos n))]
    dsimp only
    exact ih (Nat.lt_of_succ_lt hn) o p

theorem held_bias : ∀ (n : ℕ) (hn : n < cfg0.N) (o : Fin 96) (p : Fin 128),
    ((outsAt0 m c n hn).2.2.2.2.2.2.2.2.1 : Vec Ideal S96x128 .f32) (ix2 o p) = argB m c (ix1 o) := by
  intro n
  induction n with
  | zero =>
    intro hn o p
    rw [outsAt0_A m c ⟨0, hn⟩ rfl]
    dsimp only
    exact (bias_apply ..).trans (bias_blk m c _ o)
  | succ n ih =>
    intro hn o p
    rw [outsAt0_B m c ⟨n + 1, hn⟩ (later (n := n + 1) (n_137 ▸ hn) (Nat.succ_pos n))]
    dsimp only
    exact ih (Nat.lt_of_succ_lt hn) o p

/-! ## The padded codes -/

/-- The code tap `kw` sees at column `p` of padded row `ρ`: row 1 is the picture's first. -/
def padTap (x : Vec Ideal S3x8x180x128x192 .bf16) (s : EReal) (b : Fin 3) (f : Fin 8) (ρ kw : ℕ) (d : Fin 192) (p : Fin 128) : EReal :=
  if h : 1 ≤ ρ ∧ ρ < 181 then tapCode (fun d p => x (ix5 b f ⟨ρ - 1, by omega⟩ p d)) s kw d p else 0

theorem padTap_congr (x : Vec Ideal S3x8x180x128x192 .bf16) (s : EReal) {b b' : Fin 3} (f : Fin 8) {ρ ρ' kw kw' : ℕ} {d d' : Fin 192} (p : Fin 128)
    (hb : b.val = b'.val) (hρ : ρ = ρ') (hk : kw = kw') (hd : d.val = d'.val) : padTap x s b f ρ kw d p = padTap x s b' f ρ' kw' d' p := by
  rw [Fin.ext hb, hρ, hk, Fin.ext hd]

theorem padTap_out (x : Vec Ideal S3x8x180x128x192 .bf16) (s : EReal) (b : Fin 3) (f : Fin 8) (ρ kw : ℕ) (d : Fin 192) (p : Fin 128)
    (h : ¬ (1 ≤ ρ ∧ ρ < 181)) : padTap x s b f ρ kw d p = 0 := dif_neg h

/-- A loaded row, as the padded codes hold it. -/
theorem row_blk (t : Fin cfg0.N) (f : Fin 8) (r : Fin 4) (kw : ℕ) (d : Fin 192) (p : Fin 128) :
    tapCode (fun d p => (iblk m c 3 t : Vec Ideal S1x8x4x192x128 .bf16) (ix5 0 f r d p)) ((iblk m c 0 t : Vec Ideal S1 .f32) (ix1 0)) kw d p =
      padTap (argX m c) (argXs m c) ⟨grp t.val / 45, by have := grp_lt t.val; omega⟩ f (4 * (grp t.val % 45) + r.val + 1) kw d p := by
  unfold padTap
  rw [dif_pos (by omega), xs_blk m c t (ix1 0) (ix1 0)]
  refine congrArg (fun row => tapCode row (argXs m c) kw d p) (funext fun d' => funext fun p' => ?_)
  exact x_blk m c t f r d' p'

/-- The padded codes of the new frames after a step that loads a group of rows. -/
theorem px_state : ∀ (n : ℕ) (hn : n < cfg0.N) (h1 : 1 ≤ n) (hl : n ≤ 135) (f : Fin 8) (k : ℕ) (hk : k < 2880) (p : Fin 128),
    ((outsAt0 m c n hn).2.2.2.1 : Vec Ideal S10x3520x128 .fp8e4m3) (ix3 ⟨f.val + 2, by omega⟩ ⟨k, by omega⟩ p) =
      padTap (argX m c) (argXs m c) ⟨(n - 1) / 45, by omega⟩ f (4 * ((n - 1) % 45) + k / 576) (k % 576 / 192) ⟨k % 192, by omega⟩ p := by
  intro n
  induction n using Nat.strong_induction_on with
  | _ n ih =>
    intro hn h1 hl f k hk p
    refine (step_px m c ⟨n, hn⟩ h1 f ⟨k, by omega⟩ p (by show k < 3456; omega)).trans ?_
    unfold cellRun cellOf
    rw [edge_eq ⟨n, hn⟩ h1]
    dsimp only
    by_cases hk0 : k < 576
    · rw [dif_pos hk0]
      by_cases he : (n - 1) % 45 = 0
      · rw [if_pos he, if_pos rfl, padTap_out]
        omega
      · rw [if_neg he, if_neg (by decide)]
        refine (ih (n - 1) (by omega) (by omega) (by omega) (by omega) f (2304 + k) (by omega) p).trans ?_
        refine padTap_congr _ _ _ _ ?_ ?_ ?_ ?_
        · show (n - 1 - 1) / 45 = (n - 1) / 45; omega
        · omega
        · omega
        · show (2304 + k) % 192 = k % 192; omega
    · rw [dif_neg hk0, dif_pos hk]
      refine (row_blk m c ⟨n, hn⟩ f ⟨k / 576 - 1, by omega⟩ _ _ p).trans ?_
      have hg : grp n = n - 1 := by unfold grp; omega
      refine padTap_congr _ _ _ _ ?_ ?_ rfl rfl
      · show grp n / 45 = (n - 1) / 45; rw [hg]
      · show 4 * (grp n % 45) + (k / 576 - 1) + 1 = _
        rw [hg]; omega

/-- What the products of a step read. -/
theorem patch_state (t : Fin cfg0.N) (h2 : 2 ≤ t.val) (f : Fin 8) (k : ℕ) (hk : k < 3456) (p : Fin 128) :
    patch (grid0.coords t) (iblk m c 0 t) (iblk m c 3 t) (outsAt0 m c (t.val - 1) (Nat.lt_of_le_of_lt (Nat.sub_le _ _) t.isLt)).2.2.2.1 f k p =
      padTap (argX m c) (argXs m c) ⟨outGrp t.val / 45, by have := outGrp_lt t.val; omega⟩ f (4 * (outGrp t.val % 45) + k / 576) (k % 576 / 192) ⟨k % 192, by omega⟩ p := by
  have ht : t.val < 137 := n_137 ▸ t.isLt
  have ho : outGrp t.val = t.val - 2 := by unfold outGrp; omega
  unfold patch
  by_cases h : k < 2880
  · rw [dif_pos h]
    refine (px_state m c (t.val - 1) _ (by omega) (by omega) f k h p).trans ?_
    refine padTap_congr _ _ _ _ ?_ ?_ rfl rfl
    · show (t.val - 1 - 1) / 45 = outGrp t.val / 45; omega
    · omega
  · rw [dif_neg h]
    unfold cellRun cellOf
    rw [edge_eq t (by omega), dif_neg (by omega), dif_neg h]
    by_cases he : (t.val - 1) % 45 = 0
    · rw [if_pos he, if_pos rfl, padTap_out]
      omega
    · rw [if_neg he, if_neg (by decide)]
      refine (row_blk m c t f 0 _ _ p).trans ?_
      have hg : grp t.val = t.val - 1 := by unfold grp; omega
      refine padTap_congr _ _ _ _ ?_ ?_ rfl rfl
      · show grp t.val / 45 = outGrp t.val / 45; omega
      · show 4 * (grp t.val % 45) + 0 + 1 = _
        omega

end Cert.KernelIdeal.Conv
-- ==== Proof.Answer.lean ====
/- The three results, as functions of the arguments. -/
module

public import proofs.«01_k».proof.Proof.RefValue

@[expose] public section

noncomputable section

namespace Conv

open Idealize.ShloMosaic

/-- The convolution with its scales and biases, channels before columns. -/
def yOf (x : (⟨5, ![3, 8, 180, 128, 192]⟩ : Shape).Idx → EReal) (k : (⟨5, ![3, 2, 180, 128, 192]⟩ : Shape).Idx → EReal) (xs ks : EReal)
    (w : (⟨5, ![3, 3, 3, 192, 96]⟩ : Shape).Idx → EReal) (ws bias : (⟨1, ![96]⟩ : Shape).Idx → EReal) (b : Fin 3) (t : Fin 8) (r : Fin 180) (o : Fin 96) (p : Fin 128) : EReal :=
  convAt x k xs ks w b t r p o * ws (ix1 o) + bias (ix1 o)

/-- An infinite scale leaves only zero codes. -/
theorem code_top (v : EReal) : code v ⊤ = 0 := by
  unfold code Ideal.div
  rw [if_neg EReal.top_ne_zero, EReal.inv_top, mul_zero, mul_zero]
  have hl : Ideal.ofBits .f32 0xC3E00000#32 = ((-448 : ℝ) : EReal) := by
    simp [Ideal.ofBits, Ideal.ieee]; rw [← EReal.coe_mul]; norm_num
  have hh : Ideal.ofBits .f32 0x43E00000#32 = ((448 : ℝ) : EReal) := by
    simp [Ideal.ofBits, Ideal.ieee]; rw [← EReal.coe_mul]; norm_num
  rw [hl, hh, max_eq_right (by exact_mod_cast (by norm_num : (-448 : ℝ) ≤ 0)), min_eq_right (by exact_mod_cast (by norm_num : (0 : ℝ) ≤ 448))]

theorem sum_scale {n : ℕ} (g : Fin n → EReal) (s : EReal) (h0 : 0 ≤ s) (h1 : s ≠ ⊤) : (∑ i, g i) * s = ∑ i, g i * s := by
  induction n with
  | zero => simp
  | succ n ih => rw [Fin.sum_univ_castSucc, Fin.sum_univ_castSucc, EReal.right_distrib_of_nonneg_of_ne_top h0 h1, ih]

/-- Blocks of an initial range, summed one after the other. -/
theorem sum_blocks (n k : ℕ) (g : ℕ → EReal) : ∑ i : Fin n, ∑ j : Fin k, g (k * i.val + j.val) = ∑ i ∈ Finset.range (k * n), g i := by
  induction n with
  | zero => simp
  | succ n ih =>
    rw [Fin.sum_univ_castSucc]
    simp only [Fin.val_castSucc, Fin.val_last]
    rw [ih, Nat.mul_succ, Finset.sum_range_add, Finset.sum_range fun j => g (k * n + j)]

/-- The contraction in seven padded tiles is the contraction over row taps, column taps and channels. -/
theorem sum_taps (g : ℕ → EReal) (h : ∀ k, 1728 ≤ k → g k = 0) :
    ∑ j : Fin 7, ∑ k : Fin 256, g (256 * j.val + k.val) = ∑ kh : Fin 3, ∑ kw : Fin 3, ∑ d : Fin 192, g (576 * kh.val + 192 * kw.val + d.val) := by
  rw [sum_blocks 7 256 g, Finset.sum_range_add g 1728 64, Finset.sum_eq_zero fun k _ => h (1728 + k) (by omega), add_zero]
  refine (sum_blocks 3 576 g).symm.trans (Finset.sum_congr rfl fun kh _ => ?_)
  refine ((Finset.sum_range fun j => g (576 * kh.val + j)).symm.trans ((sum_blocks 3 192 fun j => g (576 * kh.val + j)).symm)).trans ?_
  simp only [Nat.add_assoc]

end Conv
-- ==== Proof.Values.lean ====
/- The kernel's three arrays after the run. -/
module

public import proofs.«01_k».proof.Proof.States
public import proofs.«01_k».proof.Proof.Answer

@[expose] public section

set_option maxRecDepth 16384

noncomputable section

namespace Cert.KernelIdeal.Conv

open Idealize.ShloMosaic Idealize.ShloMosaic.TcCoe Idealize.ShloMosaic.Tactic
open Cert.KernelIdeal.Gen
open _root_.Conv

variable (m : (ℓ : Loc nD τ sig) → Buf (Elt Ideal) ℓ) (c : Dev nD)

theorem padTap_scale (x : Vec Ideal S3x8x180x128x192 .bf16) (k : Vec Ideal S3x2x180x128x192 .fp8e4m3) (s ks : EReal) (b : Fin 3) (f : Fin 8) (g : Fin 10)
    (hg : g.val = f.val + 2) (ρ kw : ℕ) (d : Fin 192) (p : Fin 128) : padTap x s b f ρ kw d p * s = padAt x k s ks b g ρ (p.val + kw) d := by
  unfold padTap padAt
  by_cases h : 1 ≤ ρ ∧ ρ < 181
  · rw [dif_pos h]
    unfold tapCode
    by_cases h' : 1 ≤ p.val + kw ∧ p.val + kw < 129
    · rw [dif_pos h', dif_pos ⟨h, h'⟩]
      unfold seqAt
      rw [dif_neg (by omega)]
      exact congrArg (fun f => code (x (ix5 b f ⟨ρ - 1, by omega⟩ ⟨p.val + kw - 1, by omega⟩ d)) s * s) (Fin.ext (by show f.val = g.val - 2; omega))
    · rw [dif_neg h', dif_neg fun e => h' e.2, zero_mul]
  · rw [dif_neg h, dif_neg fun e => h e.1, zero_mul]

/-- The weights as the run stages them. -/
def weights : Vec Ideal S3x1728x96 .fp8e4m3 := iblk m c 5 ⟨0, by rw [n_137]; omega⟩

theorem padTap_top (x : Vec Ideal S3x8x180x128x192 .bf16) (b : Fin 3) (f : Fin 8) (ρ kw : ℕ) (d : Fin 192) (p : Fin 128) : padTap x ⊤ b f ρ kw d p = 0 := by
  unfold padTap tapCode
  split
  · split
    · exact code_top _
    · rfl
  · rfl

/-- The products of a later frame's block, scaled. -/
theorem y_sum (hs : 0 ≤ argXs m c) (k : Vec Ideal S3x2x180x128x192 .fp8e4m3) (ks : EReal) (t : Fin cfg0.N) (h2 : 2 ≤ t.val) (f : Fin 6) (r : Fin 4) (o : Fin 96) (p : Fin 128) :
    (∑ kt : Fin 3, ∑ j : Fin 7, ∑ k : Fin 256,
        ((outsAt0 m c (t.val - 1) (Nat.lt_of_le_of_lt (Nat.sub_le _ _) t.isLt)).2.2.2.2.2.1 : Vec Ideal S3x96x1792 .fp8e4m3) (ix3 kt o ⟨256 * j.val + k.val, by omega⟩) *
          patch (grid0.coords t) (iblk m c 0 t) (iblk m c 3 t) (outsAt0 m c (t.val - 1) (Nat.lt_of_le_of_lt (Nat.sub_le _ _) t.isLt)).2.2.2.1
            ⟨f.val + kt.val, by omega⟩ (576 * r.val + 256 * j.val + k.val) p) * argXs m c =
      convAt (argX m c) k (argXs m c) ks (argW m c) ⟨outGrp t.val / 45, by have := outGrp_lt t.val; omega⟩ ⟨f.val + 2, by omega⟩
        ⟨4 * (outGrp t.val % 45) + r.val, by omega⟩ p o := by
  unfold convAt
  by_cases ht : argXs m c = ⊤
  · have e1 : ∀ (kt : Fin 3) (j : Fin 7) (q : Fin 256), ((outsAt0 m c (t.val - 1) (Nat.lt_of_le_of_lt (Nat.sub_le _ _) t.isLt)).2.2.2.2.2.1 : Vec Ideal S3x96x1792 .fp8e4m3)
        (ix3 kt o ⟨256 * j.val + q.val, by omega⟩) *
          patch (grid0.coords t) (iblk m c 0 t) (iblk m c 3 t) (outsAt0 m c (t.val - 1) (Nat.lt_of_le_of_lt (Nat.sub_le _ _) t.isLt)).2.2.2.1
            ⟨f.val + kt.val, by omega⟩ (576 * r.val + 256 * j.val + q.val) p = 0 := fun kt j q => by
      by_cases h : 576 * r.val + 256 * j.val + q.val < 3456
      · rw [patch_state m c t h2 _ _ h, ht, padTap_top]
        exact mul_zero _
      · rw [held_lhs, dif_neg (by show ¬ 256 * j.val + q.val < 1728; omega)]
        exact zero_mul _
    have e2 : ∀ (kt kh kw : Fin 3) (d : Fin 192), padAt (argX m c) k (argXs m c) ks ⟨outGrp t.val / 45, by have := outGrp_lt t.val; omega⟩ ⟨f.val + 2 + kt.val, by omega⟩
        (4 * (outGrp t.val % 45) + r.val + kh.val) (p.val + kw.val) d * argW m c (ix5 kt kh kw d o) = 0 := fun kt kh kw d => by
      rw [← padTap_scale (argX m c) k (argXs m c) ks _ ⟨f.val + kt.val, by omega⟩ ⟨f.val + 2 + kt.val, by omega⟩ (by show f.val + 2 + kt.val = f.val + kt.val + 2; omega), ht, padTap_top, zero_mul]
      exact zero_mul _
    rw [Finset.sum_eq_zero fun kt _ => Finset.sum_eq_zero fun j _ => Finset.sum_eq_zero fun q _ => e1 kt j q, zero_mul]
    exact (Finset.sum_eq_zero fun kt _ => Finset.sum_eq_zero fun kh _ => Finset.sum_eq_zero fun kw _ => Finset.sum_eq_zero fun d _ => e2 kt kh kw d).symm
  rw [sum_scale _ _ hs ht]
  refine Finset.sum_congr rfl fun kt _ => ?_
  let g : ℕ → EReal := fun κ => if h : κ < 1728 then
      weights m c (ix3 kt ⟨κ, h⟩ o) *
        padTap (argX m c) (argXs m c) ⟨outGrp t.val / 45, by have := outGrp_lt t.val; omega⟩ ⟨f.val + kt.val, by omega⟩
          (4 * (outGrp t.val % 45) + (576 * r.val + κ) / 576) ((576 * r.val + κ) % 576 / 192) ⟨(576 * r.val + κ) % 192, by omega⟩ p else 0
  have hg : ∀ (j : Fin 7) (q : Fin 256), _ = g (256 * j.val + q.val) := fun j q => by
    show ((outsAt0 m c (t.val - 1) (Nat.lt_of_le_of_lt (Nat.sub_le _ _) t.isLt)).2.2.2.2.2.1 : Vec Ideal S3x96x1792 .fp8e4m3) (ix3 kt o ⟨256 * j.val + q.val, by omega⟩) *
      patch (grid0.coords t) (iblk m c 0 t) (iblk m c 3 t) (outsAt0 m c (t.val - 1) (Nat.lt_of_le_of_lt (Nat.sub_le _ _) t.isLt)).2.2.2.1
        ⟨f.val + kt.val, by omega⟩ (576 * r.val + 256 * j.val + q.val) p = _
    rw [held_lhs]
    by_cases h : 256 * j.val + q.val < 1728
    · rw [dif_pos h, patch_state m c t h2 _ _ (by omega)]
      show _ = dite _ _ _
      rw [dif_pos h]
      simp only [Nat.add_assoc]
      rfl
    · rw [dif_neg h, zero_mul]
      show (0 : EReal) = dite _ _ _
      rw [dif_neg h]
  rw [Finset.sum_congr rfl fun j _ => Finset.sum_congr rfl fun q _ => hg j q, sum_taps g fun κ h => dif_neg (by omega), sum_scale _ _ hs ht]
  refine Finset.sum_congr rfl fun kh _ => ?_
  rw [sum_scale _ _ hs ht]
  refine Finset.sum_congr rfl fun kw _ => ?_
  rw [sum_scale _ _ hs ht]
  refine Finset.sum_congr rfl fun d _ => ?_
  show dite _ _ _ * _ = _
  rw [dif_pos (by omega), show weights m c (ix3 kt ⟨576 * kh.val + 192 * kw.val + d.val, by omega⟩ o) = argW m c (ix5 kt kh kw d o) from w_blk m c _ kt kh kw d o, mul_assoc, mul_comm (argW m c _)]
  refine congrArg (fun v : EReal => v * argW m c (ix5 kt kh kw d o)) ?_
  refine (congrArg (fun v : EReal => v * argXs m c) (padTap_congr _ _ _ p rfl ?_ ?_ ?_)).trans
    (padTap_scale (argX m c) k (argXs m c) ks _ ⟨f.val + kt.val, by omega⟩ ⟨f.val + 2 + kt.val, by omega⟩ (by show f.val + 2 + kt.val = f.val + kt.val + 2; omega)
      (4 * (outGrp t.val % 45) + r.val + kh.val) kw.val d p)
  · omega
  · omega
  · show (576 * r.val + (576 * kh.val + 192 * kw.val + d.val)) % 192 = d.val; omega

/-- A later frame's block of the output. -/
theorem y_state (hs : 0 ≤ argXs m c) (k : Vec Ideal S3x2x180x128x192 .fp8e4m3) (ks : EReal) (t : Fin cfg0.N) (h2 : 2 ≤ t.val) (f : Fin 6) (r : Fin 4)
    (o : Fin 96) (p : Fin 128) :
    (outsAt0 m c t.val t.isLt).1 (ix5 0 ⟨f.val + 2, by omega⟩ r o p) =
      yOf (argX m c) k (argXs m c) ks (argW m c) (argWs m c) (argB m c) ⟨outGrp t.val / 45, by have := outGrp_lt t.val; omega⟩ ⟨f.val + 2, by omega⟩
        ⟨4 * (outGrp t.val % 45) + r.val, by omega⟩ o p := by
  have hl : ∀ (kt : Fin 3) (o : Fin 96) (k : Fin 1792), 1728 ≤ k.val →
      ((outsAt0 m c (t.val - 1) (Nat.lt_of_le_of_lt (Nat.sub_le _ _) t.isLt)).2.2.2.2.2.1 : Vec Ideal S3x96x1792 .fp8e4m3) (ix3 kt o k) = 0 :=
    fun kt o k hk => (held_lhs m c _ _ kt o k).trans (dif_neg (by omega))
  refine (step_y m c t (by omega) hl f r o p).trans ?_
  rw [held_scale, held_bias]
  unfold yOf
  refine congrArg (fun v : EReal => v + argB m c (ix1 o)) ?_
  rw [mul_comm (argWs m c (ix1 o)) (argXs m c), ← mul_assoc]
  refine congrArg (fun v : EReal => v * argWs m c (ix1 o)) ?_
  exact y_sum m c hs k ks t h2 f r o p

/-! ## Arrays -/

theorem y_idx5 (y : S1x8x4x96x128.Idx) : ∃ f r o p, y = ix5 0 f r o p :=
  ⟨y 1, y 2, y 3, y 4, funext fun a => by
    match a with
    | 0 => exact Subsingleton.elim (α := Fin 1) _ _
    | 1 => rfl
    | 2 => rfl
    | 3 => rfl
    | 4 => rfl⟩

theorem x_idx5 (y : S1x8x4x192x128.Idx) : ∃ f r o p, y = ix5 0 f r o p :=
  ⟨y 1, y 2, y 3, y 4, funext fun a => by
    match a with
    | 0 => exact Subsingleton.elim (α := Fin 1) _ _
    | 1 => rfl
    | 2 => rfl
    | 3 => rfl
    | 4 => rfl⟩

theorem n_idx5 (y : S1x2x4x192x128.Idx) : ∃ f r o p, y = ix5 0 f r o p :=
  ⟨y 1, y 2, y 3, y 4, funext fun a => by
    match a with
    | 0 => exact Subsingleton.elim (α := Fin 1) _ _
    | 1 => rfl
    | 2 => rfl
    | 3 => rfl
    | 4 => rfl⟩

/-- The output array's later frames. -/
theorem y_array (hs : 0 ≤ argXs m c) (k : Vec Ideal S3x2x180x128x192 .fp8e4m3) (ks : EReal) (i : S3x8x180x96x128.Idx) (hi : 2 ≤ (i 1).val) :
    ((dats m 0 c).arrAt 8 cfg0.N : Vec Ideal S3x8x180x96x128 .bf16) i =
      yOf (argX m c) k (argXs m c) ks (argW m c) (argWs m c) (argB m c) (i 0) (i 1) (i 2) (i 3) (i 4) := by
  refine (dats m 0 c).arrAt_forall_of_covers 8 (fun (i : S3x8x180x96x128.Idx) v => 2 ≤ (i 1).val →
    v = yOf (argX m c) k (argXs m c) ks (argW m c) (argWs m c) (argB m c) (i 0) (i 1) (i 2) (i 3) (i 4)) covers8 (fun t hf y => ?_) i (Memref.isWhole_whole _) hi
  obtain ⟨f, r, o, p, rfl⟩ := y_idx5 y
  rw [emb8, after0_8]
  intro h
  have hf' : ∃ f' : Fin 6, f = ⟨f'.val + 2, Nat.add_lt_add_right f'.isLt 2⟩ := ⟨⟨f.val - 2, by omega⟩, Fin.ext (by have : 2 ≤ f.val := h; show f.val = f.val - 2 + 2; omega)⟩
  obtain ⟨f', rfl⟩ := hf'
  exact y_state m c hs k ks t (flush8_two t hf) f' r o p

/-- The array of codes. -/
theorem codes_array (i : S3x8x180x192x128.Idx) :
    ((dats m 0 c).arrAt 9 cfg0.N : Vec Ideal S3x8x180x192x128 .fp8e4m3) i = code (argX m c (ix5 (i 0) (i 1) (i 2) (i 4) (i 3))) (argXs m c) := by
  refine (dats m 0 c).arrAt_forall_of_covers 9 (fun (i : S3x8x180x192x128.Idx) v =>
    v = code (argX m c (ix5 (i 0) (i 1) (i 2) (i 4) (i 3))) (argXs m c)) covers9 (fun t hf y => ?_) i (Memref.isWhole_whole _)
  obtain ⟨f, r, d, p, rfl⟩ := x_idx5 y
  rw [emb9, after0_9]
  refine (step_codes m c t (flush9_one t hf) f r d p).trans ?_
  exact congrArg₂ code (x_blk m c t f r d p) (xs_blk m c t _ _)

/-- The array of the new cache. -/
theorem cache_array (i : S3x2x180x192x128.Idx) :
    ((dats m 0 c).arrAt 10 cfg0.N : Vec Ideal S3x2x180x192x128 .fp8e4m3) i =
      code (argX m c (ix5 (i 0) ⟨6 + (i 1).val, by have : (i 1).val < 2 := (i 1).isLt; omega⟩ (i 2) (i 4) (i 3))) (argNs m c) := by
  refine (dats m 0 c).arrAt_forall_of_covers 10 (fun (i : S3x2x180x192x128.Idx) v =>
    v = code (argX m c (ix5 (i 0) ⟨6 + (i 1).val, by have : (i 1).val < 2 := (i 1).isLt; omega⟩ (i 2) (i 4) (i 3))) (argNs m c)) covers10 (fun t hf y => ?_) i
    (Memref.isWhole_whole _)
  obtain ⟨f, r, d, p, rfl⟩ := n_idx5 y
  rw [emb10, after0_10]
  refine (step_cache m c t (flush10_one t hf) f r d p).trans ?_
  exact congrArg₂ code (x_blk m c t ⟨6 + f.val, by omega⟩ r d p) (ns_blk m c t _ _)

end Cert.KernelIdeal.Conv
-- ==== Proof.RefArrays.lean ====
/- The reference's three arrays after the run. -/
module

public import proofs.«01_k».proof.Proof.Answer
public import Idealize.ShloMosaic.Lib.Pipeline.ValueKit
public import Idealize.ShloMosaic.Lib.Pipeline.ValueKit.Tiles

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen
open _root_.Conv

variable (m : (ℓ : Loc nD τ sig) → Buf (Elt Ideal) ℓ) (c : Dev nD)

/-- The grid's one point. -/
abbrev t0 : Fin cfg0.N := ⟨0, by decide⟩

abbrev argX : Vec Ideal S3x8x180x128x192 .bf16 := m ((c : Thread nD τ).loc main_arg2)
abbrev argK : Vec Ideal S3x2x180x128x192 .fp8e4m3 := m ((c : Thread nD τ).loc main_arg3)
abbrev argW : Vec Ideal S3x3x3x192x96 .fp8e4m3 := m ((c : Thread nD τ).loc main_arg5)
abbrev argXs : EReal := (m ((c : Thread nD τ).loc main_arg0) : Vec Ideal S1 .f32) (ix1 0)
abbrev argNs : EReal := (m ((c : Thread nD τ).loc main_arg1) : Vec Ideal S1 .f32) (ix1 0)
abbrev argWs : Vec Ideal S96 .f32 := m ((c : Thread nD τ).loc main_arg6)
abbrev argB : Vec Ideal S96 .f32 := m ((c : Thread nD τ).loc main_arg7)
def argKs : EReal := (iblk m c 2 t0 : Vec Ideal S1 .f32) (ix1 0)

theorem emb0 (z : S1.Idx) : ((cfg0.win 0).blk t0).view.emb z = z := one_idx _ _
theorem emb1 (z : S1.Idx) : ((cfg0.win 1).blk t0).view.emb z = z := one_idx _ _

theorem emb3 (z : S3x8x180x128x192.Idx) : ((cfg0.win 3).blk t0).view.emb z = z := by
  funext a; apply Fin.ext
  match a with
  | ⟨0, _⟩ => show 0 * 3 + 1 * (z 0).val = (z 0).val; omega
  | ⟨1, _⟩ => show 0 * 8 + 1 * (z 1).val = (z 1).val; omega
  | ⟨2, _⟩ => show 0 * 180 + 1 * (z 2).val = (z 2).val; omega
  | ⟨3, _⟩ => show 0 * 128 + 1 * (z 3).val = (z 3).val; omega
  | ⟨4, _⟩ => show 0 * 192 + 1 * (z 4).val = (z 4).val; omega

theorem emb4 (z : S3x2x180x128x192.Idx) : ((cfg0.win 4).blk t0).view.emb z = z := by
  funext a; apply Fin.ext
  match a with
  | ⟨0, _⟩ => show 0 * 3 + 1 * (z 0).val = (z 0).val; omega
  | ⟨1, _⟩ => show 0 * 2 + 1 * (z 1).val = (z 1).val; omega
  | ⟨2, _⟩ => show 0 * 180 + 1 * (z 2).val = (z 2).val; omega
  | ⟨3, _⟩ => show 0 * 128 + 1 * (z 3).val = (z 3).val; omega
  | ⟨4, _⟩ => show 0 * 192 + 1 * (z 4).val = (z 4).val; omega

theorem emb5 (z : S3x3x3x192x96.Idx) : ((cfg0.win 5).blk t0).view.emb z = z := by
  funext a; apply Fin.ext
  match a with
  | ⟨0, _⟩ => show 0 * 3 + 1 * (z 0).val = (z 0).val; omega
  | ⟨1, _⟩ => show 0 * 3 + 1 * (z 1).val = (z 1).val; omega
  | ⟨2, _⟩ => show 0 * 3 + 1 * (z 2).val = (z 2).val; omega
  | ⟨3, _⟩ => show 0 * 192 + 1 * (z 3).val = (z 3).val; omega
  | ⟨4, _⟩ => show 0 * 96 + 1 * (z 4).val = (z 4).val; omega

theorem emb6 (z : S1x96.Idx) : ((cfg0.win 6).blk t0).view.emb z = z := by
  funext a; apply Fin.ext
  match a with
  | ⟨0, _⟩ => show 0 * 1 + 1 * (z 0).val = (z 0).val; omega
  | ⟨1, _⟩ => show 0 * 96 + 1 * (z 1).val = (z 1).val; omega

theorem emb7 (z : S1x96.Idx) : ((cfg0.win 7).blk t0).view.emb z = z := by
  funext a; apply Fin.ext
  match a with
  | ⟨0, _⟩ => show 0 * 1 + 1 * (z 0).val = (z 0).val; omega
  | ⟨1, _⟩ => show 0 * 96 + 1 * (z 1).val = (z 1).val; omega

theorem emb8 (z : S3x8x180x96x128.Idx) : ((cfg0.win 8).blk t0).view.emb z = z := by
  funext a; apply Fin.ext
  match a with
  | ⟨0, _⟩ => show 0 * 3 + 1 * (z 0).val = (z 0).val; omega
  | ⟨1, _⟩ => show 0 * 8 + 1 * (z 1).val = (z 1).val; omega
  | ⟨2, _⟩ => show 0 * 180 + 1 * (z 2).val = (z 2).val; omega
  | ⟨3, _⟩ => show 0 * 96 + 1 * (z 3).val = (z 3).val; omega
  | ⟨4, _⟩ => show 0 * 128 + 1 * (z 4).val = (z 4).val; omega

theorem emb9 (z : S3x8x180x192x128.Idx) : ((cfg0.win 9).blk t0).view.emb z = z := by
  funext a; apply Fin.ext
  match a with
  | ⟨0, _⟩ => show 0 * 3 + 1 * (z 0).val = (z 0).val; omega
  | ⟨1, _⟩ => show 0 * 8 + 1 * (z 1).val = (z 1).val; omega
  | ⟨2, _⟩ => show 0 * 180 + 1 * (z 2).val = (z 2).val; omega
  | ⟨3, _⟩ => show 0 * 192 + 1 * (z 3).val = (z 3).val; omega
  | ⟨4, _⟩ => show 0 * 128 + 1 * (z 4).val = (z 4).val; omega

theorem emb10 (z : S3x2x180x192x128.Idx) : ((cfg0.win 10).blk t0).view.emb z = z := by
  funext a; apply Fin.ext
  match a with
  | ⟨0, _⟩ => show 0 * 3 + 1 * (z 0).val = (z 0).val; omega
  | ⟨1, _⟩ => show 0 * 2 + 1 * (z 1).val = (z 1).val; omega
  | ⟨2, _⟩ => show 0 * 180 + 1 * (z 2).val = (z 2).val; omega
  | ⟨3, _⟩ => show 0 * 192 + 1 * (z 3).val = (z 3).val; omega
  | ⟨4, _⟩ => show 0 * 128 + 1 * (z 4).val = (z 4).val; omega

theorem blk0 (z : S1.Idx) : (iblk m c 0 t0 : Vec Ideal S1 .f32) z = argXs m c := by
  show V m c main_arg0 (((cfg0.win 0).blk t0).view.emb z) = _
  rw [V_main_arg0]
  exact congrArg _ (one_idx _ _)

theorem blk1 (z : S1.Idx) : (iblk m c 1 t0 : Vec Ideal S1 .f32) z = argNs m c := by
  show V m c main_arg1 (((cfg0.win 1).blk t0).view.emb z) = _
  rw [V_main_arg1]
  exact congrArg _ (one_idx _ _)

theorem blk3 : (iblk m c 3 t0 : Vec Ideal S3x8x180x128x192 .bf16) = argX m c := by
  funext z
  show V m c main_arg2 (((cfg0.win 3).blk t0).view.emb z) = _
  rw [V_main_arg2, emb3]

theorem blk4 : (iblk m c 4 t0 : Vec Ideal S3x2x180x128x192 .fp8e4m3) = argK m c := by
  funext z
  show V m c main_arg3 (((cfg0.win 4).blk t0).view.emb z) = _
  rw [V_main_arg3, emb4]

theorem blk5 : (iblk m c 5 t0 : Vec Ideal S3x3x3x192x96 .fp8e4m3) = argW m c := by
  funext z
  show V m c main_arg5 (((cfg0.win 5).blk t0).view.emb z) = _
  rw [V_main_arg5, emb5]

theorem V_v1 : V m c main_v1 = shapeCast S1x96 (m ((c : Thread nD τ).loc main_arg6)) shapeCasts_S96_S1x96 := rfl
theorem V_v2 : V m c main_v2 = shapeCast S1x96 (m ((c : Thread nD τ).loc main_arg7)) shapeCasts_S96_S1x96 := rfl

theorem row_cast (v : Vec Ideal S96 .f32) (o : Fin 96) : shapeCast S1x96 v shapeCasts_S96_S1x96 (ix2 0 o) = v (ix1 o) := by
  pointwise []

theorem blk6 (o : Fin 96) : (iblk m c 6 t0 : Vec Ideal S1x96 .f32) (ix2 0 o) = argWs m c (ix1 o) := by
  show V m c main_v1 (((cfg0.win 6).blk t0).view.emb (ix2 0 o : S1x96.Idx)) = _
  rw [emb6, V_v1]
  exact row_cast _ _

theorem blk7 (o : Fin 96) : (iblk m c 7 t0 : Vec Ideal S1x96 .f32) (ix2 0 o) = argB m c (ix1 o) := by
  show V m c main_v2 (((cfg0.win 7).blk t0).view.emb (ix2 0 o : S1x96.Idx)) = _
  rw [emb7, V_v2]
  exact row_cast _ _

theorem idx5_eta {n0 n1 n2 n3 n4 : ℕ} (i : (⟨5, ![n0, n1, n2, n3, n4]⟩ : Shape).Idx) : i = ix5 (i 0) (i 1) (i 2) (i 3) (i 4) :=
  funext fun a => by
    match a with
    | 0 => rfl
    | 1 => rfl
    | 2 => rfl
    | 3 => rfl
    | 4 => rfl

/-- The output array. -/
theorem y_array (i : S3x8x180x96x128.Idx) : ((dats m 0 c).arrAt 8 cfg0.N : Vec Ideal S3x8x180x96x128 .bf16) i =
    yOf (argX m c) (argK m c) (argXs m c) (argKs m c) (argW m c) (argWs m c) (argB m c) (i 0) (i 1) (i 2) (i 3) (i 4) := by
  have b := congrFun (blocks8 m c t0 rfl) i
  rw [flushed8_A] at b
  have b' : (dats m 0 c).arrAt 8 cfg0.N (((cfg0.win 8).blk t0).view.emb i) = _ := b
  rw [emb8] at b'
  refine b'.trans ?_
  refine (congrArg _ (idx5_eta i)).trans ?_
  refine (out8_apply ..).trans ?_
  rw [blk3, blk4, blk5]
  refine congrArg₂ (fun a b : EReal => a + b) (congrArg₂ (fun a b : EReal => a * b) ?_ (blk6 m c (i 3))) (blk7 m c (i 3))
  exact congrArg (fun s => convAt (argX m c) (argK m c) s (argKs m c) (argW m c) (i 0) (i 1) (i 2) (i 4) (i 3)) (blk0 m c (ix1 0))

/-- The array of codes. -/
theorem codes_array (i : S3x8x180x192x128.Idx) :
    ((dats m 0 c).arrAt 9 cfg0.N : Vec Ideal S3x8x180x192x128 .fp8e4m3) i = code (argX m c (ix5 (i 0) (i 1) (i 2) (i 4) (i 3))) (argXs m c) := by
  have b := congrFun (blocks9 m c t0 rfl) i
  rw [flushed9_A] at b
  have b' : (dats m 0 c).arrAt 9 cfg0.N (((cfg0.win 9).blk t0).view.emb i) = _ := b
  rw [emb9] at b'
  refine b'.trans ?_
  refine (congrArg _ (idx5_eta i)).trans ?_
  refine (out9_apply ..).trans ?_
  rw [blk3, blk0]

/-- The array of the new cache. -/
theorem cache_array (i : S3x2x180x192x128.Idx) :
    ((dats m 0 c).arrAt 10 cfg0.N : Vec Ideal S3x2x180x192x128 .fp8e4m3) i =
      code (argX m c (ix5 (i 0) ⟨6 + (i 1).val, by have : (i 1).val < 2 := (i 1).isLt; omega⟩ (i 2) (i 4) (i 3))) (argNs m c) := by
  have b := congrFun (blocks10 m c t0 rfl) i
  rw [flushed10_A] at b
  have b' : (dats m 0 c).arrAt 10 cfg0.N (((cfg0.win 10).blk t0).view.emb i) = _ := b
  rw [emb10] at b'
  refine b'.trans ?_
  refine (congrArg _ (idx5_eta i)).trans ?_
  refine (out10_apply ..).trans ?_
  rw [blk3, blk1]

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Pre_scale_is_not_negative
public import proofs.«01_k».proof.Proof.Gen.On_later_frames
public import proofs.«01_k».proof.Proof.Gen.Scales
public import proofs.«01_k».proof.Proof.Gen.Scales.Skeleton
public import proofs.«01_k».proof.Proof.Gen.Scales.Loops
public import proofs.«01_k».proof.Proof.Gen.Scales.Launch
public import proofs.«01_k».proof.Proof.Gen.Scales.Points
public import proofs.«01_k».proof.Proof.Gen.Scales.Frame
public import proofs.«01_k».proof.Proof.Gen.ScalesIdeal
public import proofs.«01_k».proof.Proof.Gen.ScalesIdeal.Skeleton
public import proofs.«01_k».proof.Proof.Gen.ScalesIdeal.Loops
public import proofs.«01_k».proof.Proof.Gen.ScalesIdeal.Launch
public import proofs.«01_k».proof.Proof.Gen.ScalesIdeal.Points
public import proofs.«01_k».proof.Proof.Gen.ScalesIdeal.Frame
public import proofs.«01_k».proof.Proof.Gen.ScalesReferenceIdeal
public import proofs.«01_k».proof.Proof.Gen.ScalesReferenceIdeal.Skeleton
public import proofs.«01_k».proof.Proof.Gen.ScalesReferenceIdeal.Launch
public import proofs.«01_k».proof.Proof.Gen.ScalesReferenceIdeal.Points
public import proofs.«01_k».proof.Proof.Gen.ScalesReferenceIdeal.Frame
public import proofs.«01_k».proof.Proof.ScaleValue
public import proofs.«01_k».proof.Proof.BitScaleFrame
public import proofs.«01_k».proof.Proof.Values
public import proofs.«01_k».proof.Proof.RefArrays
public import Idealize.ShloMosaic.Adequacy
public import Idealize.ShloMosaic.Init

@[expose] public section

noncomputable section

namespace Cert.Proof

open Idealize.ShloMosaic Idealize.SL.Sem Cert.Kernel

/-- What the precondition says of the scale. -/
theorem scale_of_pre [Cert.Pre_scale_is_not_negative.Facts] (x0 x1 x2 x3 x4 x5 x6 x7)
    (h : Cert.Pre_scale_is_not_negative.fn (F := Ideal) x0 x1 x2 x3 x4 x5 x6 x7 = fun _ => 1#1) :
    (0 : EReal) ≤ x0 (ix1 0) := by
  have hx : Ideal.cmp .oge (x0 (ix1 0)) (Ideal.ofBits .f32 0x00000000#32) = 1#1 := by
    refine Eq.trans ?_ (congrFun h (fun a => a.elim0))
    unfold Cert.Pre_scale_is_not_negative.fn
    have e : ∀ j : (⟨1, ![1]⟩ : Shape).Idx, j = ix1 0 := fun j => funext fun a => by
      match a with
      | 0 => exact Subsingleton.elim (α := Fin 1) _ _
    show _ = Ideal.cmp .oge (x0 _) _
    rw [e (Shape.reshapeEquiv _ _)]
    rfl
  have hz : Ideal.ofBits .f32 0x00000000#32 = 0 := by simp [Ideal.ofBits, Ideal.ieee]
  rw [hz] at hx
  unfold Ideal.cmp at hx
  by_cases h0 : (0 : EReal) ≤ x0 (ix1 0)
  · exact h0
  · simp [h0] at hx

/-- What the mask says of an index of the output. -/
theorem frame_of_mask [Cert.On_later_frames.Facts] (x0 x1 x2 x3 x4 x5 x6 x7) (i : (⟨5, ![3, 8, 180, 96, 128]⟩ : Shape).Idx)
    (h : (Cert.On_later_frames.fn (F := Ideal) x0 x1 x2 x3 x4 x5 x6 x7).1 i = 1#1) : 2 ≤ (i 1).val := by
  have hm : ∀ f : Fin 8, BitVec.ofBool ((2#32 : BitVec 32).sle (BitVec.ofNat 32 f.val)) = 1#1 → 2 ≤ f.val := by decide
  exact hm (i 1) h

theorem claim : Cert.Claim := ⟨Cert.Kernel.Gen.facts, Cert.KernelIdeal.Gen.facts, Cert.ReferenceIdeal.Gen.facts, Cert.Scales.Gen.facts, Cert.ScalesIdeal.Gen.facts, Cert.ScalesReferenceIdeal.Gen.facts, Cert.Pre_scale_is_not_negative.Gen.facts, Cert.On_later_frames.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  fun m ρ _ => Cert.Scales.Gen.frame m ρ,
  fun m ρ _ => Cert.ScalesIdeal.Gen.frame m ρ,
  fun m ρ _ => Cert.ScalesReferenceIdeal.Gen.frame m ρ,
  trivial,
  by
    intro m g m' g' hpre harg
    have hsc : ∀ c, _ := fun c => scale_of_pre _ _ _ _ _ _ _ _ (hpre c)
    refine ⟨fun c (i : (⟨5, ![3, 8, 180, 96, 128]⟩ : Shape).Idx) =>
        (Conv.yOf (KernelIdeal.Conv.argX m c) (ReferenceIdeal.Value.argK m' c) (KernelIdeal.Conv.argXs m c) (ReferenceIdeal.Value.argKs m' c) (KernelIdeal.Conv.argW m c)
          (KernelIdeal.Conv.argWs m c) (KernelIdeal.Conv.argB m c) (i 0) (i 1) (i 2) (i 3) (i 4) : EReal),
      fun c (i : (⟨5, ![3, 8, 180, 192, 128]⟩ : Shape).Idx) => (Conv.code (KernelIdeal.Conv.argX m c (ix5 (i 0) (i 1) (i 2) (i 4) (i 3))) (KernelIdeal.Conv.argXs m c) : EReal),
      fun c (i : (⟨5, ![3, 2, 180, 192, 128]⟩ : Shape).Idx) => (Conv.code (KernelIdeal.Conv.argX m c
        (ix5 (i 0) ⟨6 + (i 1).val, by have : (i 1).val < 2 := (i 1).isLt; omega⟩ (i 2) (i 4) (i 3))) (KernelIdeal.Conv.argNs m c) : EReal), ?_, ?_⟩
    · refine (θ_run _ _ _).mono (fun r h c => ?_) (Cert.KernelIdeal.Value.run_blocks m g)
      obtain ⟨h0, h1, h2, hk⟩ := h c
      refine ⟨fun i hi => ?_, fun i _ => ?_, fun i _ => ?_, hk⟩
      · rw [h0]
        exact KernelIdeal.Conv.y_array m c (hsc c) _ _ i (frame_of_mask _ _ _ _ _ _ _ _ i hi)
      · rw [h1]
        exact KernelIdeal.Conv.codes_array m c i
      · rw [h2]
        exact KernelIdeal.Conv.cache_array m c i
    · refine (θ_run _ _ _).mono (fun r h c => ?_) (Cert.ReferenceIdeal.Value.run_blocks m' g')
      obtain ⟨h0, h1, h2, hk⟩ := h c
      obtain ⟨a0, a1, a2, a3, a4, a5, a6, a7⟩ := harg c
      have e0 : ReferenceIdeal.Value.argXs m' c = KernelIdeal.Conv.argXs m c := congrFun a0 (ix1 0)
      have e1 : ReferenceIdeal.Value.argNs m' c = KernelIdeal.Conv.argNs m c := congrFun a1 (ix1 0)
      have e2 : ReferenceIdeal.Value.argX m' c = KernelIdeal.Conv.argX m c := a2
      have e5 : ReferenceIdeal.Value.argW m' c = KernelIdeal.Conv.argW m c := a5
      have e6 : ReferenceIdeal.Value.argWs m' c = KernelIdeal.Conv.argWs m c := a6
      have e7 : ReferenceIdeal.Value.argB m' c = KernelIdeal.Conv.argB m c := a7
      refine ⟨fun i _ => ?_, fun i _ => ?_, fun i _ => ?_, hk⟩
      · rw [h0]
        refine (ReferenceIdeal.Value.y_array m' c i).trans ?_
        rw [e0, e2, e5, e6, e7]
      · rw [h1]
        refine (ReferenceIdeal.Value.codes_array m' c i).trans ?_
        rw [e0, e2]
      · rw [h2]
        refine (ReferenceIdeal.Value.cache_array m' c i).trans ?_
        rw [e1, e2],
  trivial,
  by
    intro m g m' g' _ harg
    refine ⟨_, _, Cert.ScalesIdeal.Gen.run_arrays m g, (θ_run _ _ _).mono (fun r h c => ?_) (Cert.ScalesReferenceIdeal.Gen.run_arrays m' g')⟩
    obtain ⟨h0, h1, hk⟩ := h c
    have e : Cert.ScalesReferenceIdeal.Gen.argX m' c = Cert.ScalesIdeal.Gen.argX m c := harg c
    rw [e] at h0 h1
    exact ⟨h0, h1, hk⟩⟩

end Cert.Proof

end
